-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = Layout.blockN ⟨4, ![4, 256, 16, 64]⟩ ⟨4, ![4, 512, 16, 64]⟩ (Layout.meshBlock [2, 2, 2] ![[], [0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨4, ![4, 256, 16, 64]⟩ ⟨4, ![4, 512, 16, 64]⟩ (Layout.meshBlock [2, 2, 2] ![[], [0], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![4, 256, 16, 64]⟩ ⟨4, ![4, 512, 16, 64]⟩ (Layout.meshBlock [2, 2, 2] ![[], [0], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = Layout.blockN ⟨4, ![4, 256, 16, 64]⟩ ⟨4, ![4, 512, 16, 64]⟩ (Layout.meshBlock [2, 2, 2] ![[], [0], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S4x256x16x64 : Shape := ⟨4, ![4, 256, 16, 64]⟩
abbrev S_ : Shape := ⟨0, ![]⟩

class Facts : Prop where
  bcast_S_S4x256x16x64 : S_.BroadcastsInDim S4x256x16x64 (![] : Fin 0 → Fin S4x256x16x64.rank)

variable [Facts]

def fn {F : FTy → Type} [FloatOps F] (main_arg0 : FVec F S4x256x16x64 .f32) (main_arg1 : FVec F S4x256x16x64 .f32) (main_arg2 : FVec F S4x256x16x64 .f32) : IVec S4x256x16x64 1 :=
  let main_v0 : FVec F S4x256x16x64 .f32 := Host.absf main_arg0
  let main_cst : FVec F S_ .f32 := constant S_ .f32 0x7F800000#32
  let main_v1 : FVec F S4x256x16x64 .f32 := broadcastInDim S4x256x16x64 ![] bcast_S_S4x256x16x64 main_cst
  let main_v2 : IVec S4x256x16x64 1 := cmpf .olt main_v0 main_v1
  let main_v3 : FVec F S4x256x16x64 .f32 := Host.absf main_arg1
  let main_cst_0 : FVec F S_ .f32 := constant S_ .f32 0x7F800000#32
  let main_v4 : FVec F S4x256x16x64 .f32 := broadcastInDim S4x256x16x64 ![] bcast_S_S4x256x16x64 main_cst_0
  let main_v5 : IVec S4x256x16x64 1 := cmpf .olt main_v3 main_v4
  let main_v6 : IVec S4x256x16x64 1 := andi main_v2 main_v5
  main_v6
-- ==== Pre_finite_scores_ReferenceIdeal.lean ====
abbrev S4x512x16x64 : Shape := ⟨4, ![4, 512, 16, 64]⟩
abbrev S_ : Shape := ⟨0, ![]⟩

class Facts : Prop where
  bcast_S_S4x512x16x64 : S_.BroadcastsInDim S4x512x16x64 (![] : Fin 0 → Fin S4x512x16x64.rank)

variable [Facts]

def fn {F : FTy → Type} [FloatOps F] (main_arg0 : FVec F S4x512x16x64 .f32) (main_arg1 : FVec F S4x512x16x64 .f32) (main_arg2 : FVec F S4x512x16x64 .f32) : IVec S4x512x16x64 1 :=
  let main_v0 : FVec F S4x512x16x64 .f32 := Host.absf main_arg0
  let main_cst : FVec F S_ .f32 := constant S_ .f32 0x7F800000#32
  let main_v1 : FVec F S4x512x16x64 .f32 := broadcastInDim S4x512x16x64 ![] bcast_S_S4x512x16x64 main_cst
  let main_v2 : IVec S4x512x16x64 1 := cmpf .olt main_v0 main_v1
  let main_v3 : FVec F S4x512x16x64 .f32 := Host.absf main_arg1
  let main_cst_0 : FVec F S_ .f32 := constant S_ .f32 0x7F800000#32
  let main_v4 : FVec F S4x512x16x64 .f32 := broadcastInDim S4x512x16x64 ![] bcast_S_S4x512x16x64 main_cst_0
  let main_v5 : IVec S4x512x16x64 1 := cmpf .olt main_v3 main_v4
  let main_v6 : IVec S4x512x16x64 1 := andi main_v2 main_v5
  main_v6
-- ==== Kernel.lean ====
abbrev S4x256x16x64 : Shape := ⟨4, ![4, 256, 16, 64]⟩
abbrev S_ : Shape := ⟨0, ![]⟩
abbrev S4x16x64x256 : Shape := ⟨4, ![4, 16, 64, 256]⟩
abbrev S1x16x64x256 : Shape := ⟨4, ![1, 16, 64, 256]⟩
abbrev S4x16x1x256 : Shape := ⟨4, ![4, 16, 1, 256]⟩
abbrev S4 : Shape := ⟨1, ![4]⟩
abbrev S1 : Shape := ⟨1, ![1]⟩
abbrev S16x64x256 : Shape := ⟨3, ![16, 64, 256]⟩
abbrev S16x256x256 : Shape := ⟨3, ![16, 256, 256]⟩
abbrev S16x256 : Shape := ⟨2, ![16, 256]⟩
abbrev S16x1x256 : Shape := ⟨3, ![16, 1, 256]⟩
abbrev S1x16x1x256 : Shape := ⟨4, ![1, 16, 1, 256]⟩

abbrev nBuf : Space → Nat
  | .hbm => 14
  | .vmem => 10
  | .smem => 0
  | _ => 0

abbrev bufTy : (tb : Table) → Fin (tcTables nBuf tb) → BufTy
  | .hbm, ⟨0, _⟩ => ⟨S4x256x16x64, .f32⟩
  | .hbm, ⟨1, _⟩ => ⟨S4x256x16x64, .f32⟩
  | .hbm, ⟨2, _⟩ => ⟨S4x256x16x64, .f32⟩
  | .hbm, ⟨3, _⟩ => ⟨S_, .f32⟩
  | .hbm, ⟨4, _⟩ => ⟨S4x256x16x64, .f32⟩
  | .hbm, ⟨5, _⟩ => ⟨S4x256x16x64, .f32⟩
  | .hbm, ⟨6, _⟩ => ⟨S4x16x64x256, .f32⟩
  | .hbm, ⟨7, _⟩ => ⟨S4x16x64x256, .bf16⟩
  | .hbm, ⟨8, _⟩ => ⟨S4x16x64x256, .f32⟩
  | .hbm, ⟨9, _⟩ => ⟨S4x16x64x256, .bf16⟩
  | .hbm, ⟨10, _⟩ => ⟨S4x16x64x256, .f32⟩
  | .hbm, ⟨11, _⟩ => ⟨S4x16x64x256, .bf16⟩
  | .hbm, ⟨12, _⟩ => ⟨S4x16x64x256, .bf16⟩
  | .hbm, ⟨13, _⟩ => ⟨S4x256x16x64, .bf16⟩
  | .local _ .vmem, ⟨0, _⟩ => ⟨S4x16x64x256, .bf16⟩
  | .local _ .vmem, ⟨1, _⟩ => ⟨S1x16x64x256, .bf16⟩
  | .local _ .vmem, ⟨2, _⟩ => ⟨S1x16x64x256, .bf16⟩
  | .local _ .vmem, ⟨3, _⟩ => ⟨S1x16x64x256, .bf16⟩
  | .local _ .vmem, ⟨4, _⟩ => ⟨S1x16x64x256, .bf16⟩
  | .local _ .vmem, ⟨5, _⟩ => ⟨S4x16x64x256, .bf16⟩
  | .local _ .vmem, ⟨6, _⟩ => ⟨S4x16x64x256, .bf16⟩
  | .local _ .vmem, ⟨7, _⟩ => ⟨S4x16x64x256, .bf16⟩
  | .local _ .vmem, ⟨8, _⟩ => ⟨S4x16x64x256, .f32⟩
  | .local _ .vmem, ⟨9, _⟩ => ⟨S4x16x1x256, .f32⟩
  | _, _ => ⟨S4x256x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev barrier0 : Sem sig := 0

abbrev nD : Nat := 8
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v10 : BitVec 1 := Scalar.cmpi .eq arg0 c0_i32
  let arg1 : BitVec 32 := BitVec.ofNat 32 (i 1).val
  let c0_i32_4 : BitVec 32 := 0#32
  let v11 : BitVec 1 := Scalar.cmpi .eq arg1 c0_i32_4
  let v12 : BitVec 1 := Scalar.andi v10 v11
  let v13 : BitVec 32 := Scalar.extui v12
  let c0_i32_5 : BitVec 32 := 0#32
  let v14 : BitVec 1 := Scalar.cmpi .ne v13 c0_i32_5
  v14

def k0_dev1 (d0 : Dev nD) : Nat :=
  let c0_i32_16 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_15 : BitVec 32 := 4#32
  let v28 : BitVec 32 := Scalar.muli v9 c4_i32_15
  let v29 : BitVec 32 := Scalar.addi c0_i32_16 v28
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_17 : BitVec 32 := 2#32
  let v30 : BitVec 32 := Scalar.muli v5 c2_i32_17
  let v31 : BitVec 32 := Scalar.addi v29 v30
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_18 : BitVec 32 := 1#32
  let v32 : BitVec 32 := Scalar.muli v8 c1_i32_18
  let v33 : BitVec 32 := Scalar.addi v31 v32
  v33.toNat
def k0_dev2 (d0 : Dev nD) : Nat :=
  let c0_i32_25 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_24 : BitVec 32 := 4#32
  let v34 : BitVec 32 := Scalar.muli v9 c4_i32_24
  let v35 : BitVec 32 := Scalar.addi c0_i32_25 v34
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_26 : BitVec 32 := 2#32
  let v36 : BitVec 32 := Scalar.muli v5 c2_i32_26
  let v37 : BitVec 32 := Scalar.addi v35 v36
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_27 : BitVec 32 := 1#32
  let v38 : BitVec 32 := Scalar.muli v8 c1_i32_27
  let v39 : BitVec 32 := Scalar.addi v37 v38
  v39.toNat
def k0_dev3 (d0 : Dev nD) : Nat :=
  let c0_i32_39 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_38 : BitVec 32 := 4#32
  let v48 : BitVec 32 := Scalar.muli v9 c4_i32_38
  let v49 : BitVec 32 := Scalar.addi c0_i32_39 v48
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_40 : BitVec 32 := 2#32
  let v50 : BitVec 32 := Scalar.muli v5 c2_i32_40
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_41 : BitVec 32 := 1#32
  let v52 : BitVec 32 := Scalar.muli v8 c1_i32_41
  let v53 : BitVec 32 := Scalar.addi v51 v52
  v53.toNat
def k0_dev4 (d0 : Dev nD) : Nat :=
  let c0_i32_53 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_52 : BitVec 32 := 4#32
  let v62 : BitVec 32 := Scalar.muli v9 c4_i32_52
  let v63 : BitVec 32 := Scalar.addi c0_i32_53 v62
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_54 : BitVec 32 := 2#32
  let v64 : BitVec 32 := Scalar.muli v5 c2_i32_54
  let v65 : BitVec 32 := Scalar.addi v63 v64
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_55 : BitVec 32 := 1#32
  let v66 : BitVec 32 := Scalar.muli v8 c1_i32_55
  let v67 : BitVec 32 := Scalar.addi v65 v66
  v67.toNat
def k0_dev5 (d0 : Dev nD) : Nat :=
  let c0_i32_67 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_66 : BitVec 32 := 4#32
  let v76 : BitVec 32 := Scalar.muli v9 c4_i32_66
  let v77 : BitVec 32 := Scalar.addi c0_i32_67 v76
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_68 : BitVec 32 := 2#32
  let v78 : BitVec 32 := Scalar.muli v5 c2_i32_68
  let v79 : BitVec 32 := Scalar.addi v77 v78
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_69 : BitVec 32 := 1#32
  let v80 : BitVec 32 := Scalar.muli v8 c1_i32_69
  let v81 : BitVec 32 := Scalar.addi v79 v80
  v81.toNat
def k0_dev6 (d0 : Dev nD) : Nat :=
  let c0_i32_81 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_80 : BitVec 32 := 4#32
  let v90 : BitVec 32 := Scalar.muli v9 c4_i32_80
  let v91 : BitVec 32 := Scalar.addi c0_i32_81 v90
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_82 : BitVec 32 := 2#32
  let v92 : BitVec 32 := Scalar.muli v5 c2_i32_82
  let v93 : BitVec 32 := Scalar.addi v91 v92
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_83 : BitVec 32 := 1#32
  let v94 : BitVec 32 := Scalar.muli v8 c1_i32_83
  let v95 : BitVec 32 := Scalar.addi v93 v94
  v95.toNat
def k0_dev7 (d0 : Dev nD) : Nat :=
  let c0_i32_95 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_94 : BitVec 32 := 4#32
  let v104 : BitVec 32 := Scalar.muli v9 c4_i32_94
  let v105 : BitVec 32 := Scalar.addi c0_i32_95 v104
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_96 : BitVec 32 := 2#32
  let v106 : BitVec 32 := Scalar.muli v5 c2_i32_96
  let v107 : BitVec 32 := Scalar.addi v105 v106
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_97 : BitVec 32 := 1#32
  let v108 : BitVec 32 := Scalar.muli v8 c1_i32_97
  let v109 : BitVec 32 := Scalar.addi v107 v108
  v109.toNat
def k0_dev8 (d0 : Dev nD) : Nat :=
  let c0_i32_108 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_107 : BitVec 32 := 4#32
  let v118 : BitVec 32 := Scalar.muli v9 c4_i32_107
  let v119 : BitVec 32 := Scalar.addi c0_i32_108 v118
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_109 : BitVec 32 := 2#32
  let v120 : BitVec 32 := Scalar.muli v5 c2_i32_109
  let v121 : BitVec 32 := Scalar.addi v119 v120
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_110 : BitVec 32 := 1#32
  let v122 : BitVec 32 := Scalar.muli v8 c1_i32_110
  let v123 : BitVec 32 := Scalar.addi v121 v122
  v123.toNat
def k0_dev9 (d0 : Dev nD) : Nat :=
  let c0_i32_122 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_121 : BitVec 32 := 4#32
  let v132 : BitVec 32 := Scalar.muli v9 c4_i32_121
  let v133 : BitVec 32 := Scalar.addi c0_i32_122 v132
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_123 : BitVec 32 := 2#32
  let v134 : BitVec 32 := Scalar.muli v5 c2_i32_123
  let v135 : BitVec 32 := Scalar.addi v133 v134
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_124 : BitVec 32 := 1#32
  let v136 : BitVec 32 := Scalar.muli v8 c1_i32_124
  let v137 : BitVec 32 := Scalar.addi v135 v136
  v137.toNat
def k0_cond2 (i : grid0.Coords) : BitVec 1 :=
  let arg0 : BitVec 32 := BitVec.ofNat 32 (i 0).val
  let c1_i32_6 : BitVec 32 := 1#32
  let v15 : BitVec 1 := Scalar.cmpi .eq arg0 c1_i32_6
  let v16 : BitVec 32 := Scalar.extui v15
  let c0_i32_7 : BitVec 32 := 0#32
  let v17 : BitVec 1 := Scalar.cmpi .ne v16 c0_i32_7
  v17

def k0_off1 (i : grid0.Coords) : Fin 1 → Nat :=
  let arg1 : BitVec 32 := BitVec.ofNat 32 (i 1).val
  ![arg1.toNat]
def k0_off2 (i : grid0.Coords) : Fin 4 → Nat :=
  let arg1 : BitVec 32 := BitVec.ofNat 32 (i 1).val
  let c0_i32_15 : BitVec 32 := 0#32
  let c0_i32_16 : BitVec 32 := 0#32
  let c0_i32_17 : BitVec 32 := 0#32
  ![arg1.toNat, 0, 0, 0]
def k0_off3 (i : grid0.Coords) : Fin 4 → Nat :=
  let arg1 : BitVec 32 := BitVec.ofNat 32 (i 1).val
  let v18 : Index := Scalar.indexCast arg1
  let c0 : Index := 0#32
  let c0_8 : Index := 0#32
  let c0_9 : Index := 0#32
  ![v18.toNat, 0, 0, 0]
def k0_cond3 (i : grid0.Coords) : BitVec 1 :=
  let arg0 : BitVec 32 := BitVec.ofNat 32 (i 0).val
  let c0_i32_10 : BitVec 32 := 0#32
  let v21 : BitVec 1 := Scalar.cmpi .eq arg0 c0_i32_10
  let v22 : BitVec 32 := Scalar.extui v21
  let c0_i32_11 : BitVec 32 := 0#32
  let v23 : BitVec 1 := Scalar.cmpi .ne v22 c0_i32_11
  v23

def k0_off4 (i : grid0.Coords) : Fin 4 → Nat :=
  let arg1 : BitVec 32 := BitVec.ofNat 32 (i 1).val
  let v37 : Index := Scalar.indexCast arg1
  let c0_24 : Index := 0#32
  let c0_25 : Index := 0#32
  let c0_26 : Index := 0#32
  ![v37.toNat, 0, 0, 0]
def k0_off5 (i : grid0.Coords) : Fin 4 → Nat :=
  let arg1 : BitVec 32 := BitVec.ofNat 32 (i 1).val
  let v41 : Index := Scalar.indexCast arg1
  let c0_27 : Index := 0#32
  let c0_28 : Index := 0#32
  let c0_29 : Index := 0#32
  ![v41.toNat, 0, 0, 0]
def k0_cond4 (i : grid0.Coords) : BitVec 1 :=
  let arg0 : BitVec 32 := BitVec.ofNat 32 (i 0).val
  let c1_i32_12 : BitVec 32 := 1#32
  let v24 : BitVec 1 := Scalar.cmpi .eq arg0 c1_i32_12
  let v25 : BitVec 32 := Scalar.extui v24
  let c0_i32_13 : BitVec 32 := 0#32
  let v26 : BitVec 1 := Scalar.cmpi .ne v25 c0_i32_13
  v26

def k0_off6 (i : grid0.Coords) : Fin 4 → Nat :=
  let arg1 : BitVec 32 := BitVec.ofNat 32 (i 1).val
  let v27 : Index := Scalar.indexCast arg1
  let c0_14 : Index := 0#32
  let c0_15 : Index := 0#32
  let c0_16 : Index := 0#32
  ![v27.toNat, 0, 0, 0]
def k0_off7 (i : grid0.Coords) : Fin 4 → Nat :=
  let arg1 : BitVec 32 := BitVec.ofNat 32 (i 1).val
  let v34 : Index := Scalar.indexCast arg1
  let c0_18 : Index := 0#32
  let c0_19 : Index := 0#32
  let c0_20 : Index := 0#32
  ![v34.toNat, 0, 0, 0]
def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 1 → Memref sig .tc .vmem S4x16x64x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x16x64x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x16x64x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S4x16x64x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]
-- ==== ReferenceIdeal.lean ====
abbrev S4x512x16x64 : Shape := ⟨4, ![4, 512, 16, 64]⟩
abbrev S4x16x512x512 : Shape := ⟨4, ![4, 16, 512, 512]⟩
abbrev S_ : Shape := ⟨0, ![]⟩
abbrev S4x16x512 : Shape := ⟨3, ![4, 16, 512]⟩
abbrev S4x16x512x1 : Shape := ⟨4, ![4, 16, 512, 1]⟩
abbrev S4x16x64x512 : Shape := ⟨4, ![4, 16, 64, 512]⟩

abbrev nBuf : Space → Nat
  | .hbm => 21
  | .vmem => 0
  | .smem => 0
  | _ => 0

abbrev bufTy : (tb : Table) → Fin (tcTables nBuf tb) → BufTy
  | .hbm, ⟨0, _⟩ => ⟨S4x512x16x64, .f32⟩
  | .hbm, ⟨1, _⟩ => ⟨S4x512x16x64, .f32⟩
  | .hbm, ⟨2, _⟩ => ⟨S4x512x16x64, .f32⟩
  | .hbm, ⟨3, _⟩ => ⟨S4x16x512x512, .f32⟩
  | .hbm, ⟨4, _⟩ => ⟨S_, .f32⟩
  | .hbm, ⟨5, _⟩ => ⟨S4x16x512x512, .f32⟩
  | .hbm, ⟨6, _⟩ => ⟨S4x16x512x512, .f32⟩
  | .hbm, ⟨7, _⟩ => ⟨S_, .f32⟩
  | .hbm, ⟨8, _⟩ => ⟨S4x16x512, .f32⟩
  | .hbm, ⟨9, _⟩ => ⟨S4x16x512x1, .f32⟩
  | .hbm, ⟨10, _⟩ => ⟨S4x16x512x512, .f32⟩
  | .hbm, ⟨11, _⟩ => ⟨S4x16x512x512, .f32⟩
  | .hbm, ⟨12, _⟩ => ⟨S4x16x512x512, .f32⟩
  | .hbm, ⟨13, _⟩ => ⟨S_, .f32⟩
  | .hbm, ⟨14, _⟩ => ⟨S4x16x512, .f32⟩
  | .hbm, ⟨15, _⟩ => ⟨S4x16x512x1, .f32⟩
  | .hbm, ⟨16, _⟩ => ⟨S4x16x512x512, .f32⟩
  | .hbm, ⟨17, _⟩ => ⟨S4x16x512x512, .f32⟩
  | .hbm, ⟨18, _⟩ => ⟨S4x16x64x512, .f32⟩
  | .hbm, ⟨19, _⟩ => ⟨S4x512x16x64, .f32⟩
  | .hbm, ⟨20, _⟩ => ⟨S4x512x16x64, .bf16⟩
  | _, _ => ⟨S4x512x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proof.Cells.lean ====
/-
  The cells and the chunks of the exchange. Device `c` and its partner `pn c` (the device whose first mesh coordinate
  is the other one) each hold four chunks of keys and four of values; chunk `b` of either is copied into the partner's
  landing buffer, on a send and a receive semaphore of its own. A transfer is named by a pair `(x, b)`: `x = false` for
  the keys, `x = true` for the values, `b` the chunk.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Regions
public import Idealize.ShloMosaic.Lib.Pipeline.Kit
public import Idealize.ShloMosaic.Lib.Pipeline.ArrRel
public import Idealize.ShloMosaic.Lib.Rounds
public import Idealize.ShloMosaic.Lib.Rounds.Family
public import Idealize.ShloMosaic.Lib.Ring.FamCut
public import Idealize.ShloMosaic.Lib.Tactic

@[expose] public section

set_option maxRecDepth 16384

noncomputable section

namespace Cert.Att

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The pipeline's rounds on the left, the exchange's rounds on the right. -/
abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

/-! ## The partner -/

/-- The device whose first mesh coordinate is the other one. -/
def pn (c : Dev nD) : Dev nD := ⟨(c.val + 4) % 8, Nat.mod_lt _ (by decide)⟩

theorem pn_pn (c : Dev nD) : pn (pn c) = c := by revert c; decide
theorem pn_inj {c d : Dev nD} (h : pn c = pn d) : c = d := by rw [← pn_pn c, h, pn_pn]

/-- Devices paired off. -/
def pairing : Dev nD ≃ Dev nD := ⟨pn, pn, pn_pn, pn_pn⟩

theorem dev_eq (c : Dev nD) (n : ℕ) (h : n < nD) (e : n = (2 * ((c.val / 2) % 2) + (c.val % 2) + 4) - 4 * (c.val / 4)) :
    (⟨n, h⟩ : Dev nD) = pn c := by
  subst e; revert c; decide

/-! ## Semaphores -/

/-- A transfer's name: keys or values, and the chunk. -/
abbrev Tr : Type := Bool × Fin 4

/-- The barrier semaphore; a transfer's send semaphore; its receive semaphore. -/
abbrev barS : Sem sig := (SemArray.scalar (sig.barrier 0 rfl) : Sems sig S_).sem
def sndS (k : Tr) : DmaSem sig := ⟨6 + 8 * k.1.toNat + k.2.val, by revert k; decide⟩
def rcvS (k : Tr) : DmaSem sig := ⟨10 + 8 * k.1.toNat + k.2.val, by revert k; decide⟩

/-- What a copy semaphore is: of the values or the keys, receive or send, which chunk. -/
def dec (s : DmaSem sig) : Bool × Tr :=
  (decide (4 ≤ (s.val - 6) % 8), decide (14 ≤ s.val), ⟨(s.val - 6) % 4, Nat.mod_lt _ (by decide)⟩)

theorem dec_snd (k : Tr) : dec (sndS k) = (false, k) := by revert k; decide
theorem dec_rcv (k : Tr) : dec (rcvS k) = (true, k) := by revert k; decide

theorem snd_ge (k : Tr) : 6 ≤ (sndS k).val := by revert k; decide
theorem rcv_ge (k : Tr) : 6 ≤ (rcvS k).val := by revert k; decide
theorem snd_inj : Function.Injective sndS := fun a b h => congrArg Prod.snd ((dec_snd a).symm.trans ((congrArg dec h).trans (dec_snd b)))
theorem rcv_inj : Function.Injective rcvS := fun a b h => congrArg Prod.snd ((dec_rcv a).symm.trans ((congrArg dec h).trans (dec_rcv b)))
theorem snd_ne_rcv (a b : Tr) : sndS a ≠ rcvS b := fun h => by
  have := (dec_snd a).symm.trans ((congrArg dec h).trans (dec_rcv b))
  exact Bool.noConfusion (congrArg Prod.fst this)

abbrev barCell (c : Dev nD) : GSem nD τ sig := ((c : Thread nD τ), .reg barS)
abbrev sndCell (c : Dev nD) (k : Tr) : GSem nD τ sig := ((c : Thread nD τ), .dma (sndS k))
abbrev rcvCell (c : Dev nD) (k : Tr) : GSem nD τ sig := ((c : Thread nD τ), .dma (rcvS k))

/-! ## Chunks -/

/-- What is sent, whole; where it lands, whole. -/
abbrev hM : Bool → Memref sig .tc .hbm S4x16x64x256 .bf16 := fun | false => Memref.whole main_v6 | true => Memref.whole main_v8
abbrev rM : Bool → Memref sig .tc .vmem S4x16x64x256 .bf16 := fun | false => Memref.whole cc0_scratch0 | true => Memref.whole cc0_scratch1

theorem inb (b : Fin 4) : ∀ a, (![b.val, 0, 0, 0] : Fin 4 → ℕ) a + S1x16x64x256.size a ≤ S4x16x64x256.size a := by revert b; decide

abbrev chR (b : Fin 4) : Rect S4x16x64x256 := Rect.unit (s := S4x16x64x256) ![b.val, 0, 0, 0] S1x16x64x256.size (inb b)

/-- Chunk `k.2` of what is sent; of where it lands. -/
abbrev srcM (k : Tr) : Memref sig .tc .hbm S16x64x256 .bf16 :=
  ((hM k.1).slice (chR k.2) (fun _ => rfl)).squeeze S16x64x256 squeezes_S1x16x64x256_S16x64x256
abbrev dstM (k : Tr) : Memref sig .tc .vmem S16x64x256 .bf16 :=
  ((rM k.1).slice (chR k.2) (fun _ => rfl)).squeeze S16x64x256 squeezes_S1x16x64x256_S16x64x256

theorem dst_set_access (k : Tr) : (dstM k).view.set = ((rM k.1).access (chR k.2)).set := by
  exact View.set_reshape _ _
theorem src_set_access (k : Tr) : (srcM k).view.set = ((hM k.1).access (chR k.2)).set := by
  exact View.set_reshape _ _

/-- Every transfer's credit. -/
abbrev N : ℕ := (dstM (false, 0)).view.dmaCredit
theorem N_pos : 0 < N := View.dmaCredit_pos _ (by decide)
theorem N_dst (k : Tr) : (dstM k).view.dmaCredit = N := by
  obtain ⟨x, b⟩ := k; cases x <;> rfl
theorem N_src (k : Tr) : (srcM k).view.dmaCredit = N := by
  obtain ⟨x, b⟩ := k; cases x <;> rfl

variable (D : Bool → Dev nD → Vec F S4x16x64x256 .bf16)

/-- Device `c`'s keys or values, as contents of the buffer they are sent from; -/
def hC : (x : Bool) → (c : Dev nD) → Buf (Elt F) ((hM x).view.loc (c : Thread nD τ)) := fun
  | false => fun c => D false c
  | true => fun c => D true c
/-- the partner's keys or values, as contents of the buffer they land in. -/
def rC : (x : Bool) → (c : Dev nD) → Buf (Elt F) ((rM x).view.loc (c : Thread nD τ)) := fun
  | false => fun c => D false (pn c)
  | true => fun c => D true (pn c)

/-- A landing chunk of device `c` at contents `f`; a chunk of what it sends, at half the share. -/
abbrev dPts (c : Dev nD) (k : Tr) (f : Buf (Elt F) ((dstM k).view.loc (c : Thread nD τ))) : sProp 𝕄 :=
  (dstM k).view.loc (c : Thread nD τ) ↦[(dstM k).view.set]{fullShare} f
abbrev sPts (c : Dev nD) (k : Tr) : sProp 𝕄 :=
  (srcM k).view.loc (c : Thread nD τ) ↦[(srcM k).view.set]{fullShare.right} (hC D k.1 c)

omit [FloatOps F] in
/-- A chunk that arrived is the sender's chunk. -/
theorem landed (k : Tr) (c : Dev nD) (fd : Buf (Elt F) ((dstM k).view.loc (pn c : Thread nD τ))) :
    (dPts (pn c) k ((dstM k).view.write (Elt F) fd ((srcM k).view.read (Elt F) (hC D k.1 c)) Finset.univ) : sProp 𝕄)
      = dPts (pn c) k (rC D k.1 (pn c)) := by
  refine pointsTo_congr fun i hi => ?_
  obtain ⟨x, b⟩ := k
  obtain ⟨j, -, rfl⟩ := Finset.mem_map.mp hi
  refine (View.write_emb_of_mem _ _ (Finset.mem_univ j)).trans ?_
  cases x
  · show D false c _ = D false (pn (pn c)) _
    rw [pn_pn]; rfl
  · show D true c _ = D true (pn (pn c)) _
    rw [pn_pn]; rfl

end Cert.Att

end
-- ==== Proof.Sched.lean ====
/-
  The exchange's schedule. A barrier cell has one round of one unit: the partner's signal, which hands over the
  partner's landing chunks and says its receive cells are open. A send cell's one round gives the source chunk back, a
  receive cell's one round gives the landed chunk, holding what the partner sent. Levels: barrier cells at 1, receive
  cells at 2, every other cell at 0 — the barrier is waited for while the eight receive credits are still owed, and the
  copies are waited for owing nothing.
-/
module

public import proofs.«01_k».proof.Proof.Cells

@[expose] public section

set_option maxRecDepth 16384

noncomputable section

namespace Cert.Att

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (D : Bool → Dev nD → Vec F S4x16x64x256 .bf16)

/-! ## The schedule -/

/-- With the barrier's unit, device `c` gets its partner's landing chunks, at anything, and that the partner's receive
    cells are open. -/
def barPay (c : Dev nD) : sProp 𝕄 :=
  bigSep Finset.univ fun k : Tr => iprop((∃ f, dPts (pn c) k f) ∗ reached ER (rcvCell (pn c) k) 0)

/-- The payload of a copy cell, by what the cell is. -/
def copyPay (c : Dev nD) (p : Bool × Tr) : sProp 𝕄 := if p.1 then dPts c p.2 (rC D p.2.1 c) else sPts D c p.2

/-- The exchange's cells. -/
abbrev IsCell (g : GSem nD τ sig) : Prop :=
  g.1.2 = .tc ∧ (g.2 = .reg barS ∨ ∃ k : Tr, g.2 = .dma (sndS k) ∨ g.2 = .dma (rcvS k))

def attRd : Rounds.Schedule (GSem nD τ sig) Unit 𝕄 where
  duties g r := if r = 0 ∧ IsCell g then {()} else ∅
  unitless _ := False
  amount g _ _ := match g.2 with | .reg _ => 1 | .dma _ => N
  payload g _ _ := match g.2 with | .reg _ => barPay g.1.1 | .dma s => copyPay D g.1.1 (dec s)
  amount_pos g _ _ _ := by
    split
    · exact Nat.one_pos
    · exact N_pos

instance attRd_payload_storable (g : GSem nD τ sig) (r : ℕ) (d : Unit) :
    BI.Storable (upEmb : UEmb _ 𝕄) ((attRd (F := F) D).payload g r d) := by
  show BI.Storable upEmb (match g.2 with | .reg _ => barPay g.1.1 | .dma s => copyPay D g.1.1 (dec s))
  unfold barPay copyPay
  (repeat' split) <;> infer_instance

section Facts

variable (c : Dev nD) (k : Tr)

omit [FloatOps F] in
theorem duties_bar : (attRd (F := F) D).duties (barCell c) 0 = {()} := by dsimp only [attRd]; exact if_pos ⟨rfl, rfl, .inl rfl⟩
omit [FloatOps F] in
theorem duties_snd : (attRd (F := F) D).duties (sndCell c k) 0 = {()} := by
  dsimp only [attRd]; exact if_pos ⟨rfl, rfl, .inr ⟨k, .inl rfl⟩⟩
omit [FloatOps F] in
theorem duties_rcv : (attRd (F := F) D).duties (rcvCell c k) 0 = {()} := by
  dsimp only [attRd]; exact if_pos ⟨rfl, rfl, .inr ⟨k, .inr rfl⟩⟩
omit [FloatOps F] in
theorem duties_later (g : GSem nD τ sig) : ∀ r, 1 ≤ r → (attRd (F := F) D).duties g r = ∅ :=
  fun r hr => by dsimp only [attRd]; exact if_neg fun h => by omega

omit [FloatOps F] in
theorem amount_bar (u : Unit) : (attRd (F := F) D).amount (barCell c) 0 u = 1 := rfl
omit [FloatOps F] in
theorem amount_snd (u : Unit) : (attRd (F := F) D).amount (sndCell c k) 0 u = N := rfl
omit [FloatOps F] in
theorem amount_rcv (u : Unit) : (attRd (F := F) D).amount (rcvCell c k) 0 u = N := rfl

omit [FloatOps F] in
theorem expect_bar : (attRd (F := F) D).expect (barCell c) 0 = 1 := by
  unfold Schedule.expect Schedule.amountOf; rw [duties_bar, Finset.sum_singleton, amount_bar]
omit [FloatOps F] in
theorem expect_snd : (attRd (F := F) D).expect (sndCell c k) 0 = N := by
  unfold Schedule.expect Schedule.amountOf; rw [duties_snd, Finset.sum_singleton, amount_snd]
omit [FloatOps F] in
theorem expect_rcv : (attRd (F := F) D).expect (rcvCell c k) 0 = N := by
  unfold Schedule.expect Schedule.amountOf; rw [duties_rcv, Finset.sum_singleton, amount_rcv]

omit [FloatOps F] in
theorem payload_bar (u : Unit) : (attRd (F := F) D).payload (barCell c) 0 u = barPay c := rfl
omit [FloatOps F] in
theorem payload_snd (u : Unit) : (attRd (F := F) D).payload (sndCell c k) 0 u = sPts D c k := by
  show copyPay D c (dec (sndS k)) = _
  rw [dec_snd]; rfl
omit [FloatOps F] in
theorem payload_rcv (u : Unit) : (attRd (F := F) D).payload (rcvCell c k) 0 u = dPts c k (rC D k.1 c) := by
  show copyPay D c (dec (rcvS k)) = _
  rw [dec_rcv]; rfl

omit [FloatOps F] in
theorem rest_bar : bigSep ((attRd (F := F) D).duties (barCell c) 0 \ ∅) (fun u => (attRd (F := F) D).payload (barCell c) 0 u) = barPay c := by
  rw [Finset.sdiff_empty, duties_bar, bigSep_singleton, payload_bar]
omit [FloatOps F] in
theorem rest_snd : bigSep ((attRd (F := F) D).duties (sndCell c k) 0 \ ∅) (fun u => (attRd (F := F) D).payload (sndCell c k) 0 u) = sPts D c k := by
  rw [Finset.sdiff_empty, duties_snd, bigSep_singleton, payload_snd]
omit [FloatOps F] in
theorem rest_rcv : bigSep ((attRd (F := F) D).duties (rcvCell c k) 0 \ ∅) (fun u => (attRd (F := F) D).payload (rcvCell c k) 0 u)
    = dPts c k (rC D k.1 c) := by
  rw [Finset.sdiff_empty, duties_rcv, bigSep_singleton, payload_rcv]

end Facts

/-! ## What is owed; levels -/

/-- The receive credits the transfers of a list pay. -/
def owedL (c : Dev nD) : List Tr → CellTallies nD τ sig Unit
  | [] => 0
  | k :: l => owedL c l + tallyAt (rcvCell (pn c) k) () N

/-- The transfers in program order. -/
abbrev trs : List Tr := [(false, 0), (true, 0), (false, 1), (true, 1), (false, 2), (true, 2), (false, 3), (true, 3)]

/-- What device `c` owes at launch: the partner's eight receive credits and its barrier unit. -/
def O₀ (c : Dev nD) : CellTallies nD τ sig Unit := owedL c trs + tallyAt (barCell (pn c)) () 1

def L (g : GSem nD τ sig) : Finset Unit := if g.1.2 = .tc then {()} else ∅
def lv (g : GSem nD τ sig) (_ : Unit) : ℕ := match g.2 with | .reg _ => 1 | .dma s => if 6 ≤ s.val ∧ (dec s).1 = true then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := rfl
theorem lv_rcv (c : Dev nD) (k : Tr) (u : Unit) : lv (rcvCell c k) u = 2 :=
  if_pos ⟨rcv_ge k, congrArg Prod.fst (dec_rcv k)⟩

theorem owedL_pos (c : Dev nD) (l : List Tr) (g : GSem nD τ sig) (u : Unit) (h : 0 < owedL c l g u) : ∃ k, g = rcvCell (pn c) k := by
  induction l with
  | nil => exact absurd h (Nat.lt_irrefl 0)
  | cons k l ih =>
    have e : owedL c (k :: l) g u = owedL c l g u + tallyAt (rcvCell (pn c) k) () N g u := rfl
    rw [e, tallyAt_apply] at h
    by_cases hg : g = rcvCell (pn c) k ∧ u = ()
    · exact ⟨k, hg.1⟩
    · rw [if_neg hg, Nat.add_zero] at h; exact ih h

theorem O₀_pos (c : Dev nD) (g : GSem nD τ sig) (u : Unit) (h : 0 < O₀ c g u) : (∃ k, g = rcvCell (pn c) k) ∨ g = barCell (pn c) := by
  have e : O₀ c g u = owedL c trs g u + tallyAt (barCell (pn c)) () 1 g u := rfl
  rw [e, tallyAt_apply] at h
  by_cases hg : g = barCell (pn c) ∧ u = ()
  · exact .inr hg.1
  · rw [if_neg hg, Nat.add_zero] at h; exact .inl (owedL_pos c _ g u h)

omit [FloatOps F] in
theorem mayWait_bar (c : Dev nD) (l : List Tr) :
    (levAts L lv : sProp 𝕄) ⊢ MayWait (c : Thread nD τ) (.reg barS) () (owedL c l) :=
  MayOwe.of_cut (L := L) (lev := lv) 1 (fun p hp => by rw [Finset.mem_singleton.mp hp, L_tc]; exact Finset.mem_singleton_self _)
    (fun g u hg => by
      obtain ⟨k, rfl⟩ := owedL_pos c l g u hg
      rw [L_tc]; exact Finset.mem_singleton_self _)
    (fun p hp => by rw [Finset.mem_singleton.mp hp]; exact Nat.le_refl 1)
    (fun g u hg => by
      obtain ⟨k, rfl⟩ := owedL_pos c l g u hg
      rw [lv_rcv]; decide)

/-- A wait on a cell at level 0 is allowed while the launch's debts stand. -/
theorem mayWait_low (c : Dev nD) (s : DmaSem sig) (hs : s.val < 6) (O : CellTallies nD τ sig Unit)
    (hO : O = O₀ c ∨ O = 0) :
    (levAts L lv : sProp 𝕄) ⊢ MayWait (c : Thread nD τ) (.dma s) () O := by
  rcases hO with rfl | rfl
  · refine MayOwe.of_cut (L := L) (lev := lv) 0 (fun p hp => by rw [Finset.mem_singleton.mp hp, L_tc]; exact Finset.mem_singleton_self _)
      (fun g u hg => ?_) (fun p hp => ?_) (fun g u hg => ?_)
    · rcases O₀_pos c g u hg with ⟨k, rfl⟩ | rfl <;> rw [L_tc] <;> exact Finset.mem_singleton_self _
    · rw [Finset.mem_singleton.mp hp]; exact le_of_eq (if_neg fun h => by omega)
    · rcases O₀_pos c g u hg with ⟨k, rfl⟩ | rfl
      · rw [lv_rcv]; decide
      · rw [lv_bar]; decide
  · rw [MayWait_zero]; iintro H; iempintro

/-! ## The families of cells -/

/-- A transfer's two cells: `false` the send cell, `true` the receive cell. -/
def osem : Bool × Tr → SemLoc sig := fun p => .dma (if p.1 then rcvS p.2 else sndS p.2)
abbrev dCell (c : Dev nD) (p : Bool × Tr) : GSem nD τ sig := ((c : Thread nD τ), osem p)

theorem osem_inj : Function.Injective osem := by
  rintro ⟨r, k⟩ ⟨r', k'⟩ h
  have h' : (if r then rcvS k else sndS k) = if r' then rcvS k' else sndS k' := SemLoc.dma.inj h
  cases r <;> cases r'
  · exact congrArg _ (snd_inj h')
  · exact absurd h' (snd_ne_rcv k k')
  · exact absurd h'.symm (snd_ne_rcv k' k)
  · exact congrArg _ (rcv_inj h')

theorem barCell_inj : Function.Injective barCell := fun a b h => by
  have : (a : Thread nD τ) = (b : Thread nD τ) := congrArg Prod.fst h
  exact congrArg Prod.fst this
theorem dCell_inj : Function.Injective (fun p : Dev nD × Bool × Tr => dCell p.1 p.2) := by
  rintro ⟨a, p⟩ ⟨b, q⟩ h
  have h1 : (a : Thread nD τ) = (b : Thread nD τ) := congrArg Prod.fst h
  have h2 : a = b := congrArg Prod.fst h1
  have h3 : osem p = osem q := congrArg Prod.snd h
  rw [h2, osem_inj h3]

def bars : Finset (GSem nD τ sig) := Finset.univ.map ⟨barCell, barCell_inj⟩
def dcells : Finset (GSem nD τ sig) := Finset.univ.map ⟨fun p : Dev nD × Bool × Tr => dCell p.1 p.2, dCell_inj⟩

theorem bar_mem (c : Dev nD) : barCell c ∈ bars := Finset.mem_map.mpr ⟨c, Finset.mem_univ _, rfl⟩
theorem d_mem (c : Dev nD) (p : Bool × Tr) : dCell c p ∈ dcells := Finset.mem_map.mpr ⟨(c, p), Finset.mem_univ _, rfl⟩

theorem bars_dcells : Disjoint bars dcells := by
  rw [Finset.disjoint_left]
  intro g hb hd
  obtain ⟨c, -, rfl⟩ := Finset.mem_map.mp hb
  obtain ⟨⟨d, p⟩, -, h⟩ := Finset.mem_map.mp hd
  have h2 : osem p = .reg barS := congrArg Prod.snd h
  cases h2

/-- The invariants of every device's cells, and that every barrier cell is at round 0: held by each device, at no cost. -/
def recs (κ : GSem nD τ sig → ℕ) : sProp 𝕄 :=
  iprop(bigSep (bars ∪ dcells) (fun g => cellInv ER (attRd D) (κ g) g) ∗ bigSep bars (fun g => reached ER g 0))

instance recs_persistent (κ : GSem nD τ sig → ℕ) : BI.Persistent (recs D κ) := by unfold recs; infer_instance

omit [FloatOps F] in
theorem inv_bar (κ : GSem nD τ sig → ℕ) (c : Dev nD) : recs D κ ⊢ cellInv ER (attRd D) (κ (barCell c)) (barCell c) := by
  unfold recs
  refine (Idealize.SL.BI.sep_and.trans Idealize.SL.BI.and_elimL).trans ?_
  exact bigSep_elim (Φ := fun g => cellInv ER (attRd D) (κ g) g) (Finset.mem_union_left dcells (bar_mem c))
omit [FloatOps F] in
theorem inv_d (κ : GSem nD τ sig → ℕ) (c : Dev nD) (p : Bool × Tr) : recs D κ ⊢ cellInv ER (attRd D) (κ (dCell c p)) (dCell c p) := by
  unfold recs
  refine (Idealize.SL.BI.sep_and.trans Idealize.SL.BI.and_elimL).trans ?_
  exact bigSep_elim (Φ := fun g => cellInv ER (attRd D) (κ g) g) (Finset.mem_union_right bars (d_mem c p))
omit [FloatOps F] in
theorem inv_snd (κ : GSem nD τ sig → ℕ) (c : Dev nD) (k : Tr) : recs D κ ⊢ cellInv ER (attRd D) (κ (sndCell c k)) (sndCell c k) :=
  inv_d D κ c (false, k)
omit [FloatOps F] in
theorem inv_rcv (κ : GSem nD τ sig → ℕ) (c : Dev nD) (k : Tr) : recs D κ ⊢ cellInv ER (attRd D) (κ (rcvCell c k)) (rcvCell c k) :=
  inv_d D κ c (true, k)
omit [FloatOps F] in
theorem reached_bar (κ : GSem nD τ sig → ℕ) (c : Dev nD) : recs D κ ⊢ reached ER (barCell c) 0 := by
  unfold recs
  refine (Idealize.SL.BI.sep_and.trans Idealize.SL.BI.and_elimR).trans ?_
  exact bigSep_elim (Φ := fun g => reached ER g 0) (bar_mem c)

omit [FloatOps F] in
/-- A cell past its one round is closed by its owner: its counter comes back at zero. -/
theorem close (κ : ℕ) (g : GSem nD τ sig) :
    iprop(cellInv ER (attRd D) κ g ∗ atPos ER g (0 + 1) ∅ 0) ⊢ (|={Set.univ}=> semVal g 0 : sProp 𝕄) :=
  Rounds.cell_close ER (attRd D) (Set.mem_univ κ) id (duties_later D g)

/-! ## A transfer's states -/

/-- Before the exchange: the source chunk, the positions at round 0, the duties to pay, the receive credit. -/
def init0 (c : Dev nD) (k : Tr) : sProp 𝕄 :=
  iprop(sPts D c k ∗ atPos ER (sndCell c k) 0 ∅ 0 ∗ reached ER (sndCell c k) 0 ∗ atPos ER (rcvCell c k) 0 ∅ 0
    ∗ dutyTok ER (sndCell c k) 0 () ∗ dutyTok ER (rcvCell (pn c) k) 0 () ∗ cred (tallyAt (rcvCell c k) () N))

/-- The landing chunk at anything, its receive cell open. -/
def land0 (c : Dev nD) (k : Tr) : sProp 𝕄 := iprop((∃ f, dPts (F := F) c k f) ∗ reached ER (rcvCell c k) 0)

/-- In flight: the two credits to wait with. -/
def pend (c : Dev nD) (k : Tr) : sProp 𝕄 :=
  iprop(atPos ER (sndCell c k) 0 ∅ 0 ∗ cred (tallyAt (sndCell c k) () N) ∗ atPos ER (rcvCell c k) 0 ∅ 0 ∗ cred (tallyAt (rcvCell c k) () N))

/-- Landed: the source chunk back, the landing chunk at what the partner sent, both counters at zero. -/
def fin (c : Dev nD) (k : Tr) : sProp 𝕄 :=
  iprop(sPts D c k ∗ dPts c k (rC D k.1 c) ∗ semVal (sndCell c k) 0 ∗ semVal (rcvCell c k) 0)

/-! ## Sending and waiting -/

/-- The kernel's variants: none. -/
abbrev 𝒱₀ : Variants := Variants.none

/-- What one transfer's start needs. -/
def ready (c : Dev nD) (k : Tr) : sProp 𝕄 :=
  iprop(init0 D c k ∗ land0 (F := F) (pn c) k)

theorem wp_send_tr (κ : GSem nD τ sig → ℕ) (c : Dev nD) (k : Tr) (n : Dev nD) (hn : n = pn c)
    (src : Memref sig .tc .hbm S16x64x256 .bf16) (hs : src = srcM k) (dst : Memref sig .tc .vmem S16x64x256 .bf16) (hd : dst = dstM k)
    (s1 s2 : DmaSem sig) (h1 : s1 = sndS k) (h2 : s2 = rcvS k)
    {hsc : (dst : Memref sig (Dev.tc n : Thread nD τ).2.kind .vmem S16x64x256 .bf16).view.ref.isScScratch = false}
    {hsrc : src.view.WordExact} {hdst : dst.view.WordExact}
    {hsem : DmaTarget.Typed .hbm (.dma s2) (.remote (Dev.tc n : Thread nD τ) (dst : Memref sig .tc .vmem S16x64x256 .bf16) (.dma s1) hsc)}
    {α : Type} {Q : α → sProp 𝕄} {p : PUnit → Prog (TpuEff nD τ sig (Elt F) Λ₀ .tc) α}
    (O : CellTallies nD τ sig Unit) (W : Waits sig Unit) :
    iprop(recs D κ ∗ ready D c k ∗ owes (c : Thread nD τ) (O + tallyAt (rcvCell (pn c) k) () N) W)
      ⊢ iprop(((pend c k ∗ owes (c : Thread nD τ) O W) -∗ wp frame (wpE (defs₀ (F := F)) 𝒱₀ (c : Thread nD τ) none) Set.univ (p ⟨⟩) Q)
          -∗ wp frame (wpE (defs₀ (F := F)) 𝒱₀ (c : Thread nD τ) none) Set.univ
              (.op (.enqueueDma src (.remote (Dev.tc n : Thread nD τ) dst (.dma s1) hsc) (.dma s2) hsrc hdst hsem) p) Q) := by
  subst hn hs hd h1 h2
  unfold ready init0 land0
  iintro ⟨#HR, ⟨⟨Hs, HaS, #HrS, HaR, HtS, HtR, HcR⟩, ⟨⟨%fd, Hd⟩, #HrR⟩⟩, HO⟩ Hk
  ihave #HIs := (inv_snd D κ c k) $$ HR
  ihave #HIr := (inv_rcv D κ (pn c) k) $$ HR
  iapply (Rounds.wp_send_pointsTo 𝒱₀ ER (attRd D) (c : Thread nD τ) none (κ₁ := κ (sndCell c k)) (κ₂ := κ (rcvCell (pn c) k))
    (r₁ := 0) (r₂ := 0) (d₁ := ()) (d₂ := ()) (fd := fd)
    (by rw [duties_snd]; exact Finset.mem_singleton_self _) (by rw [duties_rcv]; exact Finset.mem_singleton_self _)
    () () N (show (dstM k).view.amount (.dma (rcvS k)) = N from N_dst k) (amount_snd D c k ()) (amount_rcv D (pn c) k ()) O rfl (W := W)
    (by rw [payload_snd])
    (by rw [payload_rcv]; exact Entails.of_eq (landed D k c fd))) $$ [Hs Hd HO HtS HtR]
  · isplitr; · iexact HIs
    isplitr; · iexact HIr
    isplitl [Hs]; · iexact Hs
    isplitl [Hd]; · iexact Hd
    isplitl [HO]; · iexact HO
    isplitl [HtS]; · iexact HtS
    isplitr; · iexact HrS
    isplitl [HtR]; · iexact HtR
    iexact HrR
  iintro ⟨HcS, HO⟩
  iapply Hk
  isplitr [HO]
  · unfold pend
    isplitl [HaS]; · iexact HaS
    isplitl [HcS]; · iexact HcS
    isplitl [HaR] <;> iassumption
  iexact HO

/-- The wait for a transfer's own send: the source chunk comes back. -/
theorem wp_wait_snd (κ : GSem nD τ sig → ℕ) (c : Dev nD) (k : Tr)
    {sp sp' : Space} {sh sh' : Shape} {e e' : EltTy} (s : DmaSem sig) (h : s = sndS k)
    (src : Memref sig .tc sp sh e) (dst : Memref sig .tc sp' sh' e') (hN : dst.view.dmaCredit = N)
    {hsrc : src.view.WordExact} {hdst : dst.view.WordExact}
    {α : Type} {Q : α → sProp 𝕄} {p : PUnit → Prog (TpuEff nD τ sig (Elt F) Λ₀ .tc) α} (W : Waits sig Unit) :
    iprop(recs D κ ∗ (atPos ER (sndCell c k) 0 ∅ 0 ∗ cred (tallyAt (sndCell c k) () N)) ∗ owes (c : Thread nD τ) 0 W)
      ⊢ iprop(((owes (c : Thread nD τ) 0 (insert (SemLoc.dma (sndS k), ()) W) ∗ atPos ER (sndCell c k) (0 + 1) ∅ 0 ∗ sPts D c k)
            -∗ wp frame (wpE (defs₀ (F := F)) 𝒱₀ (c : Thread nD τ) none) Set.univ (p ⟨⟩) Q)
          -∗ wp frame (wpE (defs₀ (F := F)) 𝒱₀ (c : Thread nD τ) none) Set.univ
              (.op (.waitDma2 s src dst hsrc hdst) p) Q) := by
  subst h
  iintro ⟨#HR, ⟨Ha, Hc⟩, HO⟩ Hk
  ihave #HI := (inv_snd D κ c k) $$ HR
  iapply (Rounds.wp_wait_rest_token 𝒱₀ ER (attRd D) (c : Thread nD τ) none (κ := κ (sndCell c k))
      (wpE_waitDma2_eq 𝒱₀ (c : Thread nD τ) none Set.univ) (Set.mem_univ _) () (O := 0) (W := W) (R := 0) (m := 0) (T := ∅)
      (by rw [Nat.zero_add, expect_snd, hN])) $$ [Hc HO Ha]
  · isplitr; · iexact HI
    isplitl [Hc]; · rw [hN]; iexact Hc
    isplitl [HO]; · iexact HO
    isplitr; · rw [MayWait_zero]; iempintro
    iexact Ha
  iintro ⟨HO, Ha, -, Hpay⟩
  ihave Hx := (Entails.of_eq (rest_snd D c k)) $$ Hpay
  iapply Hk
  isplitl [HO]; · iexact HO
  isplitl [Ha] <;> iassumption

/-- The wait for what the partner sends: the landing chunk comes, holding it. -/
theorem wp_wait_rcv (κ : GSem nD τ sig → ℕ) (c : Dev nD) (k : Tr)
    {sp sp' : Space} {sh sh' : Shape} {e e' : EltTy} (s : DmaSem sig) (h : s = rcvS k)
    (src : Memref sig .tc sp sh e) (dst : Memref sig .tc sp' sh' e') (hN : dst.view.dmaCredit = N)
    {hsrc : src.view.WordExact} {hdst : dst.view.WordExact}
    {α : Type} {Q : α → sProp 𝕄} {p : PUnit → Prog (TpuEff nD τ sig (Elt F) Λ₀ .tc) α} (W : Waits sig Unit) :
    iprop(recs D κ ∗ (atPos ER (rcvCell c k) 0 ∅ 0 ∗ cred (tallyAt (rcvCell c k) () N)) ∗ owes (c : Thread nD τ) 0 W)
      ⊢ iprop(((owes (c : Thread nD τ) 0 (insert (SemLoc.dma (rcvS k), ()) W) ∗ atPos ER (rcvCell c k) (0 + 1) ∅ 0 ∗ dPts c k (rC D k.1 c))
            -∗ wp frame (wpE (defs₀ (F := F)) 𝒱₀ (c : Thread nD τ) none) Set.univ (p ⟨⟩) Q)
          -∗ wp frame (wpE (defs₀ (F := F)) 𝒱₀ (c : Thread nD τ) none) Set.univ
              (.op (.waitDma2 s src dst hsrc hdst) p) Q) := by
  subst h
  iintro ⟨#HR, ⟨Ha, Hc⟩, HO⟩ Hk
  ihave #HI := (inv_rcv D κ c k) $$ HR
  iapply (Rounds.wp_wait_rest_token 𝒱₀ ER (attRd D) (c : Thread nD τ) none (κ := κ (rcvCell c k))
      (wpE_waitDma2_eq 𝒱₀ (c : Thread nD τ) none Set.univ) (Set.mem_univ _) () (O := 0) (W := W) (R := 0) (m := 0) (T := ∅)
      (by rw [Nat.zero_add, expect_rcv, hN])) $$ [Hc HO Ha]
  · isplitr; · iexact HI
    isplitl [Hc]; · rw [hN]; iexact Hc
    isplitl [HO]; · iexact HO
    isplitr; · rw [MayWait_zero]; iempintro
    iexact Ha
  iintro ⟨HO, Ha, -, Hpay⟩
  ihave Hx := (Entails.of_eq (rest_rcv D c k)) $$ Hpay
  iapply Hk
  isplitl [HO]; · iexact HO
  isplitl [Ha] <;> iassumption

end Cert.Att

end
-- ==== Proof.Pieces.lean ====
/-
  The kernel body in three stretches — the start of the exchange, the waits, the arithmetic — one after the other.
-/
module

public import proofs.«01_k».proof.Proof.Sched

@[expose] public section

set_option maxRecDepth 16384

noncomputable section

namespace Cert.Att

open Cert.KernelIdeal Cert.KernelIdeal.Gen

open Idealize.ShloMosaic
open Idealize.ShloMosaic.TcCoe
open Idealize.SL.Sem

variable {F : FTy → Type} [FloatOps F]

/-- The kernel body's first stretch: at the first point, the handshake with the partner and the eight transfers. -/
def startP (i : grid0.Coords) (qM : Memref sig .tc .vmem S4x16x64x256 .bf16) (hq : qM.IsWhole)
    (kM : Memref sig .tc .vmem S1x16x64x256 .bf16) (hk : kM.IsWhole) (vM : Memref sig .tc .vmem S1x16x64x256 .bf16) (hv : vM.IsWhole)
    (oM : Memref sig .tc .vmem S4x16x64x256 .bf16) (ho : oM.IsWhole) (d0 : Dev nD) :
    Prog (TpuEff nD τ sig (Elt F) Λ₀ .tc) PUnit := do
  let v0 : BitVec 32 := Dev.word d0
  let v1 : BitVec 32 := Scalar.divsi v0 4#32
  let v2 : BitVec 32 := Scalar.remsi v1 2#32
  let v3 : BitVec 32 := Dev.word d0
  let v4 : BitVec 32 := Scalar.divsi v3 2#32
  let v5 : BitVec 32 := Scalar.remsi v4 2#32
  let v6 : BitVec 32 := Dev.word d0
  let v7 : BitVec 32 := Scalar.divsi v6 1#32
  let v8 : BitVec 32 := Scalar.remsi v7 2#32
  let v9 : BitVec 32 := Scalar.subi 1#32 v2
  if k0_h1 : k0_cond1 i = 1#1 then do
    k0_part1 i (Memref.whole main_v6) (Memref.isWhole_whole _) (Memref.whole main_v8) (Memref.isWhole_whole _) qM hq kM hk vM hv oM ho (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 d0 v5 v8 v9 k0_h1
    k0_part2 i (Memref.whole main_v6) (Memref.isWhole_whole _) (Memref.whole main_v8) (Memref.isWhole_whole _) qM hq kM hk vM hv oM ho (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 d0 v5 v8 v9 k0_h1
    k0_part3 i (Memref.whole main_v6) (Memref.isWhole_whole _) (Memref.whole main_v8) (Memref.isWhole_whole _) qM hq kM hk vM hv oM ho (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 d0 v5 v8 v9 k0_h1
    k0_part4 i (Memref.whole main_v6) (Memref.isWhole_whole _) (Memref.whole main_v8) (Memref.isWhole_whole _) qM hq kM hk vM hv oM ho (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 d0 v5 v8 v9 k0_h1
    let v142 : Memref sig .tc .vmem S1x16x64x256 .bf16 := (Memref.whole cc0_scratch1).slice (Rect.unit (s := S4x16x64x256) ![3, 0, 0, 0] S1x16x64x256.size inb_S4x16x64x256_S1x16x64x256_3_0_0_0) (fun _ => rfl)
    let v143 : Memref sig .tc .vmem S16x64x256 .bf16 := v142.squeeze S16x64x256 squeezes_S1x16x64x256_S16x64x256
    let v144 : Memref sig .tc .hbm S1x16x64x256 .bf16 := (Memref.whole main_v8).slice (Rect.unit (s := S4x16x64x256) ![3, 0, 0, 0] S1x16x64x256.size inb_S4x16x64x256_S1x16x64x256_3_0_0_0) (fun _ => rfl)
    let v145 : Memref sig .tc .hbm S16x64x256 .bf16 := v144.squeeze S16x64x256 squeezes_S1x16x64x256_S16x64x256
    let v138 : DmaSems sig S1 := cc0_scratch6.slice (Rect.unit (s := S4) ![3] S1.size inb_S4_S1_3)
    let v139 : DmaSems sig S_ := v138.squeeze S_ squeezes_S1_S_
    let v140 : DmaSems sig S1 := cc0_scratch7.slice (Rect.unit (s := S4) ![3] S1.size inb_S4_S1_3)
    let v141 : DmaSems sig S_ := v140.squeeze S_ squeezes_S1_S_
    Prog.lift (.enqueueDma v145 (.remote (Dev.tc (⟨k0_dev9 d0, k0_dev9_lt i d0 k0_h1⟩ : Dev nD)) v143 (.dma v139.sem)) (.dma v141.sem) (((Memref.isWhole_whole main_v8).wordExact_slice rfl _ wordsbf16_S4x16x64x256_S1x16x64x256_3_0_0_0).reshape _ _) (((Memref.isWhole_whole cc0_scratch1).wordExact_slice rfl _ wordsbf16_S4x16x64x256_S1x16x64x256_3_0_0_0).reshape _ _) ⟨⟨rfl, Or.inl rfl⟩, trivial⟩)
    pure ⟨⟩
  else do
    pure ⟨⟩

/-- Its second: in the second pass, the waits for the point's four transfers' ends. -/
def waitP (i : grid0.Coords) (qM : Memref sig .tc .vmem S4x16x64x256 .bf16) (hq : qM.IsWhole)
    (kM : Memref sig .tc .vmem S1x16x64x256 .bf16) (hk : kM.IsWhole) (vM : Memref sig .tc .vmem S1x16x64x256 .bf16) (hv : vM.IsWhole)
    (oM : Memref sig .tc .vmem S4x16x64x256 .bf16) (ho : oM.IsWhole) (d0 : Dev nD) :
    Prog (TpuEff nD τ sig (Elt F) Λ₀ .tc) PUnit := do
  let v0 : BitVec 32 := Dev.word d0
  let v1 : BitVec 32 := Scalar.divsi v0 4#32
  let v2 : BitVec 32 := Scalar.remsi v1 2#32
  let v3 : BitVec 32 := Dev.word d0
  let v4 : BitVec 32 := Scalar.divsi v3 2#32
  let v5 : BitVec 32 := Scalar.remsi v4 2#32
  let v6 : BitVec 32 := Dev.word d0
  let v7 : BitVec 32 := Scalar.divsi v6 1#32
  let v8 : BitVec 32 := Scalar.remsi v7 2#32
  let v9 : BitVec 32 := Scalar.subi 1#32 v2
  if k0_h2 : k0_cond2 i = 1#1 then do
    let ⟨v54, v55⟩ : Σ' (v54 : BitVec 32), BitVec 32 ← k0_part5 i (Memref.whole main_v6) (Memref.isWhole_whole _) (Memref.whole main_v8) (Memref.isWhole_whole _) qM hq kM hk vM hv oM ho (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v5 v8 v9 k0_h2
    let v57 : DmaSems sig S1 := cc0_scratch7.slice (Rect.unit (s := S4) (k0_off1 i) S1.size (k0_off1_inb i k0_h2))
    let v58 : DmaSems sig S_ := v57.squeeze S_ squeezes_S1_S_
    let v59 : Memref sig .tc .vmem S1x16x64x256 .bf16 := (Memref.whole cc0_scratch1).slice (Rect.unit (s := S4x16x64x256) (k0_off2 i) S1x16x64x256.size (k0_off2_inb i k0_h2)) (fun _ => rfl)
    let v60 : Memref sig .tc .vmem S16x64x256 .bf16 := v59.squeeze S16x64x256 squeezes_S1x16x64x256_S16x64x256
    let v61 : Memref sig .tc .hbm S1x16x64x256 .bf16 := (Memref.whole main_v8).slice (Rect.unit (s := S4x16x64x256) (k0_off2 i) S1x16x64x256.size (k0_off2_inb i k0_h2)) (fun _ => rfl)
    let v62 : Memref sig .tc .hbm S16x64x256 .bf16 := v61.squeeze S16x64x256 squeezes_S1x16x64x256_S16x64x256
    Prog.lift (.waitDma2 v58.sem v62 v60 (((Memref.isWhole_whole main_v8).wordExact_slice rfl _ (k0_off2_wordsbf16 i k0_h2)).reshape _ _) (((Memref.isWhole_whole cc0_scratch1).wordExact_slice rfl _ (k0_off2_wordsbf16 i k0_h2)).reshape _ _))
    pure ⟨⟩
  else do
    pure ⟨⟩

/-- Its third: the point's arithmetic, in the first pass over the device's own chunk, in the second over the landed one. -/
def mathP (i : grid0.Coords) (qM : Memref sig .tc .vmem S4x16x64x256 .bf16) (hq : qM.IsWhole)
    (kM : Memref sig .tc .vmem S1x16x64x256 .bf16) (hk : kM.IsWhole) (vM : Memref sig .tc .vmem S1x16x64x256 .bf16) (hv : vM.IsWhole)
    (oM : Memref sig .tc .vmem S4x16x64x256 .bf16) (ho : oM.IsWhole) :
    Prog (TpuEff nD τ sig (Elt F) Λ₀ .tc) PUnit := do
  let v19 : Vec F S1x16x64x256 .bf16 ← Prog.lift (.load qM (Rect.unit (s := S4x16x64x256) (k0_off3 i) S1x16x64x256.size (k0_off3_inb i)).toLoadRect (View.loadsAt_vmem h_S1x16x64x256))
  if k0_h3 : k0_cond3 i = 1#1 then do
    let v27 : Vec F S1x16x64x256 .bf16 ← Prog.lift (.load kM (Rect.unit (s := S1x16x64x256) ![0, 0, 0, 0] S1x16x64x256.size inb_S1x16x64x256_S1x16x64x256_0_0_0_0).toLoadRect (View.loadsAt_vmem h_S1x16x64x256))
    let v33 : Vec F S1x16x64x256 .bf16 ← Prog.lift (.load vM (Rect.unit (s := S1x16x64x256) ![0, 0, 0, 0] S1x16x64x256.size inb_S1x16x64x256_S1x16x64x256_0_0_0_0).toLoadRect (View.loadsAt_vmem h_S1x16x64x256))
    let v38 : Vec F S1x16x64x256 .f32 ← Prog.lift (.load (Memref.whole cc0_scratch2) (Rect.unit (s := S4x16x64x256) (k0_off4 i) S1x16x64x256.size (k0_off4_inb i k0_h3)).toLoadRect (View.loadsAt_vmem h_S1x16x64x256))
    Prog.lift (.store (Memref.whole cc0_scratch2) (Rect.unit (s := S4x16x64x256) (k0_off4 i) S1x16x64x256.size (k0_off4_inb i k0_h3)) (k0_pay3 v19 v27 v33) Finset.univ (View.stores_vmem_bits_univ h_S1x16x64x256 rfl) (.inl rfl))
    let v42 : Vec F S1x16x1x256 .f32 ← Prog.lift (.load (Memref.whole cc0_scratch3) (Rect.unit (s := S4x16x1x256) (k0_off5 i) S1x16x1x256.size (k0_off5_inb i k0_h3)).toLoadRect (View.loadsAt_vmem h_S1x16x1x256))
    Prog.lift (.store (Memref.whole cc0_scratch3) (Rect.unit (s := S4x16x1x256) (k0_off5 i) S1x16x1x256.size (k0_off5_inb i k0_h3)) (k0_pay4 v19 v27) Finset.univ (View.stores_vmem_bits_univ h_S1x16x1x256 rfl) (.inl rfl))
    pure ⟨⟩
  else do
    pure ⟨⟩
  if k0_h4 : k0_cond4 i = 1#1 then do
    let v28 : Vec F S1x16x64x256 .bf16 ← Prog.lift (.load (Memref.whole cc0_scratch0) (Rect.unit (s := S4x16x64x256) (k0_off6 i) S1x16x64x256.size (k0_off6_inb i k0_h4)).toLoadRect (View.loadsAt_vmem h_S1x16x64x256))
    let v35 : Vec F S1x16x1x256 .f32 ← Prog.lift (.load (Memref.whole cc0_scratch3) (Rect.unit (s := S4x16x1x256) (k0_off7 i) S1x16x1x256.size (k0_off7_inb i k0_h4)).toLoadRect (View.loadsAt_vmem h_S1x16x1x256))
    let v38 : Vec F S1x16x64x256 .bf16 ← Prog.lift (.load (Memref.whole cc0_scratch1) (Rect.unit (s := S4x16x64x256) (k0_off6 i) S1x16x64x256.size (k0_off6_inb i k0_h4)).toLoadRect (View.loadsAt_vmem h_S1x16x64x256))
    let v43 : Vec F S1x16x64x256 .f32 ← Prog.lift (.load (Memref.whole cc0_scratch2) (Rect.unit (s := S4x16x64x256) (k0_off6 i) S1x16x64x256.size (k0_off6_inb i k0_h4)).toLoadRect (View.loadsAt_vmem h_S1x16x64x256))
    let v51 : Vec F S1x16x64x256 .bf16 ← Prog.lift (.load oM (Rect.unit (s := S4x16x64x256) (k0_off6 i) S1x16x64x256.size (k0_off6_inb i k0_h4)).toLoadRect (View.loadsAt_vmem h_S1x16x64x256))
    Prog.lift (.store oM (Rect.unit (s := S4x16x64x256) (k0_off6 i) S1x16x64x256.size (k0_off6_inb i k0_h4)) (k0_pay5 v19 v28 v35 v38 v43) Finset.univ (View.stores_vmem h_S1x16x64x256 (ho.storeExact_slice rfl _ (k0_off6_packedbf16 i k0_h4)) (fun _ => rfl)) (.inl rfl))
    pure ⟨⟩
  else do
    pure ⟨⟩
  pure ⟨⟩

theorem body_split (i : grid0.Coords) (qM : Memref sig .tc .vmem S4x16x64x256 .bf16) (hq : qM.IsWhole)
    (kM : Memref sig .tc .vmem S1x16x64x256 .bf16) (hk : kM.IsWhole) (vM : Memref sig .tc .vmem S1x16x64x256 .bf16) (hv : vM.IsWhole)
    (oM : Memref sig .tc .vmem S4x16x64x256 .bf16) (ho : oM.IsWhole) :
    cc0_body (F := F) i (Memref.whole main_v6) (Memref.isWhole_whole _) (Memref.whole main_v8) (Memref.isWhole_whole _) qM hq kM hk vM hv oM ho
        (Memref.whole cc0_scratch0) (Memref.isWhole_whole _) (Memref.whole cc0_scratch1) (Memref.isWhole_whole _)
        (Memref.whole cc0_scratch2) (Memref.isWhole_whole _) (Memref.whole cc0_scratch3) (Memref.isWhole_whole _)
        cc0_scratch4 cc0_scratch5 cc0_scratch6 cc0_scratch7
      = (Prog.lift .deviceId : Prog (TpuEff nD τ sig (Elt F) Λ₀ .tc) (Dev nD)) >>= fun d0 => startP i qM hq kM hk vM hv oM ho d0 >>= fun _ =>
          waitP i qM hq kM hk vM hv oM ho d0 >>= fun _ => mathP i qM hq kM hk vM hv oM ho := by
  rw [cc0_body_eq_skeleton]
  unfold cc0_body_skel startP waitP mathP
  refine congrArg _ (funext fun d0 => ?_)
  by_cases h1 : k0_cond1 i = 1#1 <;> by_cases h2 : k0_cond2 i = 1#1 <;>
    simp only [h1, h2, dif_pos, dif_neg, not_false_eq_true, Prog.bind_assoc] <;> rfl

end Cert.Att

end
-- ==== Proof.Start.lean ====
/-
  The first point's stretch: handshake and transfers.
-/
module

public import proofs.«01_k».proof.Proof.Pieces

@[expose] public section

set_option maxRecDepth 16384

noncomputable section

namespace Cert.Att

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (D : Bool → Dev nD → Vec F S4x16x64x256 .bf16)

/-- A family over the transfers, in program order. -/
theorem bigSep_tr (Φ : Tr → sProp 𝕄) : bigSep Finset.univ Φ
    = iprop(Φ (false, 0) ∗ Φ (true, 0) ∗ Φ (false, 1) ∗ Φ (true, 1) ∗ Φ (false, 2) ∗ Φ (true, 2) ∗ Φ (false, 3) ∗ Φ (true, 3)) :=
  bigSep_univ_eq_bigSepL trs (by decide) (by decide) Φ

/-- What the handshake needs: the position and the credit on the own barrier cell, the duty on the partner's, the levels. -/
def bar0 (c : Dev nD) : sProp 𝕄 :=
  iprop(atPos ER (barCell c) 0 ∅ 0 ∗ dutyTok ER (barCell (pn c)) 0 () ∗ cred (tallyAt (barCell c) () 1) ∗ levAts L lv)

set_option maxHeartbeats 1600000 in
/-- The first stretch: the partner is signalled, with the landing chunks; its own signal brings the partner's; the eight
    transfers start. -/
theorem start_run (κ : GSem nD τ sig → ℕ) (c : Dev nD) (i : grid0.Coords) (h1 : k0_cond1 i = 1#1)
    (qM : Memref sig .tc .vmem S4x16x64x256 .bf16) (hq : qM.IsWhole)
    (kM : Memref sig .tc .vmem S1x16x64x256 .bf16) (hk : kM.IsWhole) (vM : Memref sig .tc .vmem S1x16x64x256 .bf16) (hv : vM.IsWhole)
    (oM : Memref sig .tc .vmem S4x16x64x256 .bf16) (ho : oM.IsWhole) (W : Waits sig Unit) (Kt : PUnit → sProp 𝕄) :
    iprop(recs D κ ∗ bar0 (F := F) c ∗ bigSep Finset.univ (init0 D c) ∗ bigSep Finset.univ (land0 (F := F) c) ∗ owes (c : Thread nD τ) (O₀ c) W)
      ⊢ iprop(((∃ W', semVal (barCell c) 0 ∗ bigSep Finset.univ (pend (F := F) c) ∗ owes (c : Thread nD τ) 0 W') -∗ Kt ⟨⟩)
          -∗ wp frame (wpE (defs₀ (F := F)) 𝒱₀ (c : Thread nD τ) none) Set.univ (startP i qM hq kM hk vM hv oM ho c) Kt) := by
  unfold startP
  simp only [h1, dif_pos, k0_part1_eq_skeleton, k0_part2_eq_skeleton, k0_part3_eq_skeleton, k0_part4_eq_skeleton]
  unfold k0_part1_skel k0_part2_skel k0_part3_skel k0_part4_skel
  simp only [semSignalWord, semWaitWord, Prog.lift, Prog.bind_op, Prog.bind_ret, Prog.pure_eq_ret]
  rw [bigSep_tr (init0 D c), bigSep_tr (pend c)]
  unfold bar0
  iintro ⟨#HR, ⟨HaB, HtB, HcB, #Hlev⟩, ⟨If0, It0, If1, It1, If2, It2, If3, It3⟩, HL, HO⟩ Hk
  ihave #HIb := (inv_bar D κ c) $$ HR
  ihave #HIp := (inv_bar D κ (pn c)) $$ HR
  ihave #HrP := (reached_bar D κ (pn c)) $$ HR
  rw [dev_eq c (k0_dev1 c) (k0_dev1_lt i c h1) (k0_dev1_eq c)]
  iapply (Rounds.wp_signal 𝒱₀ ER (attRd D) (c : Thread nD τ) none (dst := (pn c : Thread nD τ)) (κ := κ (barCell (pn c)))
      (by rw [duties_bar]; exact Finset.mem_singleton_self _) ((amount_bar D (pn c) ()).trans (by decide)) () (owedL c trs) rfl) $$ [HO HtB HL]
  · isplitr; · iexact HIp
    isplitl [HO]; · iexact HO
    isplitl [HtB]; · iexact HtB
    isplitl [HL]
    · rw [payload_bar]; unfold barPay; rw [pn_pn]; iexact HL
    iexact HrP
  iintro HO
  iapply (Rounds.wp_wait_rest_token 𝒱₀ ER (attRd D) (c : Thread nD τ) none (κ := κ (barCell c))
      (wpE_semWait_eq 𝒱₀ (c : Thread nD τ) none Set.univ) (Set.mem_univ _) () (O := owedL c trs) (W := W) (R := 0) (m := 0) (T := ∅)
      (by rw [expect_bar]; decide)) $$ [HcB HO HaB]
  · isplitr; · iexact HIb
    isplitl [HcB]; · iexact HcB
    isplitl [HO]; · iexact HO
    isplitr; · iapply (mayWait_bar c trs); iexact Hlev
    iexact HaB
  iintro ⟨HO, HaB, -, Hpay⟩
  ihave Hp := (Entails.of_eq ((rest_bar D c).trans <| (show barPay c = bigSep Finset.univ (land0 (F := F) (pn c)) from rfl).trans (bigSep_tr _))) $$ Hpay
  icases Hp with ⟨Df0, Dt0, Df1, Dt1, Df2, Dt2, Df3, Dt3⟩
  iapply (wp_send_tr D κ c (false, 0) _ (dev_eq c _ _ (k0_dev2_eq c)) _ rfl _ rfl _ _ rfl rfl (owedL c [(true, 0), (false, 1), (true, 1), (false, 2), (true, 2), (false, 3), (true, 3)]) (insert (SemLoc.reg barS, ()) W)) $$ [If0 Df0 HO]
  · isplitr; · iexact HR
    isplitr [HO]
    · unfold ready
      isplitl [If0] <;> iassumption
    iexact HO
  iintro ⟨Pf0, HO⟩
  iapply (wp_send_tr D κ c (true, 0) _ (dev_eq c _ _ (k0_dev3_eq c)) _ rfl _ rfl _ _ rfl rfl (owedL c [(false, 1), (true, 1), (false, 2), (true, 2), (false, 3), (true, 3)]) (insert (SemLoc.reg barS, ()) W)) $$ [It0 Dt0 HO]
  · isplitr; · iexact HR
    isplitr [HO]
    · unfold ready
      isplitl [It0] <;> iassumption
    iexact HO
  iintro ⟨Pt0, HO⟩
  iapply (wp_send_tr D κ c (false, 1) _ (dev_eq c _ _ (k0_dev4_eq c)) _ rfl _ rfl _ _ rfl rfl (owedL c [(true, 1), (false, 2), (true, 2), (false, 3), (true, 3)]) (insert (SemLoc.reg barS, ()) W)) $$ [If1 Df1 HO]
  · isplitr; · iexact HR
    isplitr [HO]
    · unfold ready
      isplitl [If1] <;> iassumption
    iexact HO
  iintro ⟨Pf1, HO⟩
  iapply (wp_send_tr D κ c (true, 1) _ (dev_eq c _ _ (k0_dev5_eq c)) _ rfl _ rfl _ _ rfl rfl (owedL c [(false, 2), (true, 2), (false, 3), (true, 3)]) (insert (SemLoc.reg barS, ()) W)) $$ [It1 Dt1 HO]
  · isplitr; · iexact HR
    isplitr [HO]
    · unfold ready
      isplitl [It1] <;> iassumption
    iexact HO
  iintro ⟨Pt1, HO⟩
  iapply (wp_send_tr D κ c (false, 2) _ (dev_eq c _ _ (k0_dev6_eq c)) _ rfl _ rfl _ _ rfl rfl (owedL c [(true, 2), (false, 3), (true, 3)]) (insert (SemLoc.reg barS, ()) W)) $$ [If2 Df2 HO]
  · isplitr; · iexact HR
    isplitr [HO]
    · unfold ready
      isplitl [If2] <;> iassumption
    iexact HO
  iintro ⟨Pf2, HO⟩
  iapply (wp_send_tr D κ c (true, 2) _ (dev_eq c _ _ (k0_dev7_eq c)) _ rfl _ rfl _ _ rfl rfl (owedL c [(false, 3), (true, 3)]) (insert (SemLoc.reg barS, ()) W)) $$ [It2 Dt2 HO]
  · isplitr; · iexact HR
    isplitr [HO]
    · unfold ready
      isplitl [It2] <;> iassumption
    iexact HO
  iintro ⟨Pt2, HO⟩
  iapply (wp_send_tr D κ c (false, 3) _ (dev_eq c _ _ (k0_dev8_eq c)) _ rfl _ rfl _ _ rfl rfl (owedL c [(true, 3)]) (insert (SemLoc.reg barS, ()) W)) $$ [If3 Df3 HO]
  · isplitr; · iexact HR
    isplitr [HO]
    · unfold ready
      isplitl [If3] <;> iassumption
    iexact HO
  iintro ⟨Pf3, HO⟩
  iapply (wp_send_tr D κ c (true, 3) _ (dev_eq c _ _ (k0_dev9_eq c)) _ rfl _ rfl _ _ rfl rfl (owedL c []) (insert (SemLoc.reg barS, ()) W)) $$ [It3 Dt3 HO]
  · isplitr; · iexact HR
    isplitr [HO]
    · unfold ready
      isplitl [It3] <;> iassumption
    iexact HO
  iintro ⟨Pt3, HO⟩
  rw [wp_ret]
  imod (close D (κ (barCell c)) (barCell c)) $$ [HaB] with HsB
  · isplitr; · iexact HIb
    iexact HaB
  imodintro
  iapply Hk
  iexists (insert (SemLoc.reg barS, ()) W)
  isplitl [HsB]; · iexact HsB
  isplitr [HO]
  · isplitl [Pf0]; · iexact Pf0
    isplitl [Pt0]; · iexact Pt0
    isplitl [Pf1]; · iexact Pf1
    isplitl [Pt1]; · iexact Pt1
    isplitl [Pf2]; · iexact Pf2
    isplitl [Pt2]; · iexact Pt2
    isplitl [Pf3]; · iexact Pf3
    iexact Pt3
  iexact HO

end Cert.Att

end
-- ==== Proof.Waits.lean ====
/-
  The second pass's stretch: a chunk's two transfers are waited for.
-/
module

public import proofs.«01_k».proof.Proof.Pieces

@[expose] public section

set_option maxRecDepth 16384

noncomputable section

namespace Cert.Att

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (D : Bool → Dev nD → Vec F S4x16x64x256 .bf16)

/-! The semaphores and credits of a chunk, its offset computed. -/

theorem sem_4 (b : Fin 4) (off : Fin 1 → ℕ) (h : ∀ a, off a + S1.size a ≤ S4.size a) (e : off = ![b.val]) :
    ((cc0_scratch4.slice (Rect.unit (s := S4) off S1.size h)).squeeze S_ squeezes_S1_S_).sem = sndS (false, b) := by
  subst e; revert b; decide +kernel
theorem sem_5 (b : Fin 4) (off : Fin 1 → ℕ) (h : ∀ a, off a + S1.size a ≤ S4.size a) (e : off = ![b.val]) :
    ((cc0_scratch5.slice (Rect.unit (s := S4) off S1.size h)).squeeze S_ squeezes_S1_S_).sem = rcvS (false, b) := by
  subst e; revert b; decide +kernel
theorem sem_6 (b : Fin 4) (off : Fin 1 → ℕ) (h : ∀ a, off a + S1.size a ≤ S4.size a) (e : off = ![b.val]) :
    ((cc0_scratch6.slice (Rect.unit (s := S4) off S1.size h)).squeeze S_ squeezes_S1_S_).sem = sndS (true, b) := by
  subst e; revert b; decide +kernel
theorem sem_7 (b : Fin 4) (off : Fin 1 → ℕ) (h : ∀ a, off a + S1.size a ≤ S4.size a) (e : off = ![b.val]) :
    ((cc0_scratch7.slice (Rect.unit (s := S4) off S1.size h)).squeeze S_ squeezes_S1_S_).sem = rcvS (true, b) := by
  subst e; revert b; decide +kernel

theorem credit_k_src (b : Fin 4) (off : Fin 4 → ℕ) (h : ∀ a, off a + S1x16x64x256.size a ≤ S4x16x64x256.size a) (e : off = ![b.val, 0, 0, 0]) :
    (((Memref.whole main_v6).slice (Rect.unit (s := S4x16x64x256) off S1x16x64x256.size h) (fun _ => rfl)).squeeze S16x64x256
      squeezes_S1x16x64x256_S16x64x256 : Memref sig .tc .hbm S16x64x256 .bf16).view.dmaCredit = N := by
  subst e; exact N_src (false, b)
theorem credit_k_dst (b : Fin 4) (off : Fin 4 → ℕ) (h : ∀ a, off a + S1x16x64x256.size a ≤ S4x16x64x256.size a) (e : off = ![b.val, 0, 0, 0]) :
    (((Memref.whole cc0_scratch0).slice (Rect.unit (s := S4x16x64x256) off S1x16x64x256.size h) (fun _ => rfl)).squeeze S16x64x256
      squeezes_S1x16x64x256_S16x64x256 : Memref sig .tc .vmem S16x64x256 .bf16).view.dmaCredit = N := by
  subst e; exact N_dst (false, b)
theorem credit_v_src (b : Fin 4) (off : Fin 4 → ℕ) (h : ∀ a, off a + S1x16x64x256.size a ≤ S4x16x64x256.size a) (e : off = ![b.val, 0, 0, 0]) :
    (((Memref.whole main_v8).slice (Rect.unit (s := S4x16x64x256) off S1x16x64x256.size h) (fun _ => rfl)).squeeze S16x64x256
      squeezes_S1x16x64x256_S16x64x256 : Memref sig .tc .hbm S16x64x256 .bf16).view.dmaCredit = N := by
  subst e; exact N_src (true, b)
theorem credit_v_dst (b : Fin 4) (off : Fin 4 → ℕ) (h : ∀ a, off a + S1x16x64x256.size a ≤ S4x16x64x256.size a) (e : off = ![b.val, 0, 0, 0]) :
    (((Memref.whole cc0_scratch1).slice (Rect.unit (s := S4x16x64x256) off S1x16x64x256.size h) (fun _ => rfl)).squeeze S16x64x256
      squeezes_S1x16x64x256_S16x64x256 : Memref sig .tc .vmem S16x64x256 .bf16).view.dmaCredit = N := by
  subst e; exact N_dst (true, b)

set_option maxHeartbeats 1600000 in
/-- The second stretch: both transfers of chunk `b` are waited for on both sides; their four cells are closed. -/
theorem wait_run (κ : GSem nD τ sig → ℕ) (c : Dev nD) (i : grid0.Coords) (h2 : k0_cond2 i = 1#1) (b : Fin 4) (hb : (i 1).val = b.val)
    (qM : Memref sig .tc .vmem S4x16x64x256 .bf16) (hq : qM.IsWhole)
    (kM : Memref sig .tc .vmem S1x16x64x256 .bf16) (hk : kM.IsWhole) (vM : Memref sig .tc .vmem S1x16x64x256 .bf16) (hv : vM.IsWhole)
    (oM : Memref sig .tc .vmem S4x16x64x256 .bf16) (ho : oM.IsWhole) (W : Waits sig Unit) (Kt : PUnit → sProp 𝕄) :
    iprop(recs D κ ∗ pend (F := F) c (false, b) ∗ pend (F := F) c (true, b) ∗ owes (c : Thread nD τ) 0 W)
      ⊢ iprop(((∃ W', fin D c (false, b) ∗ fin D c (true, b) ∗ owes (c : Thread nD τ) 0 W') -∗ Kt ⟨⟩)
          -∗ wp frame (wpE (defs₀ (F := F)) 𝒱₀ (c : Thread nD τ) none) Set.univ (waitP i qM hq kM hk vM hv oM ho c) Kt) := by
  have e1 : k0_off1 i = ![b.val] := by rw [k0_off1_eq, hb]
  have e2 : k0_off2 i = ![b.val, 0, 0, 0] := by rw [k0_off2_eq, hb]
  unfold waitP
  simp only [h2, dif_pos, k0_part5_eq_skeleton]
  unfold k0_part5_skel
  simp only [Prog.lift, Prog.bind_op, Prog.bind_ret, Prog.pure_eq_ret]
  unfold pend
  iintro ⟨#HR, ⟨KaS, KcS, KaR, KcR⟩, ⟨VaS, VcS, VaR, VcR⟩, HO⟩ Hk
  ihave #IKaS := (inv_snd D κ c (false, b)) $$ HR
  ihave #IKaR := (inv_rcv D κ c (false, b)) $$ HR
  ihave #IVaS := (inv_snd D κ c (true, b)) $$ HR
  ihave #IVaR := (inv_rcv D κ c (true, b)) $$ HR
  iapply (wp_wait_snd D κ c (false, b) _ (sem_4 b _ _ e1) _ _ (credit_k_src b _ _ e2) W) $$ [KaS KcS HO]
  · isplitr; · iexact HR
    isplitr [HO]
    · isplitl [KaS] <;> iassumption
    iexact HO
  iintro ⟨HO, KaS, Ks⟩
  iapply (wp_wait_rcv D κ c (false, b) _ (sem_5 b _ _ e1) _ _ (credit_k_dst b _ _ e2) _) $$ [KaR KcR HO]
  · isplitr; · iexact HR
    isplitr [HO]
    · isplitl [KaR] <;> iassumption
    iexact HO
  iintro ⟨HO, KaR, Kd⟩
  iapply (wp_wait_snd D κ c (true, b) _ (sem_6 b _ _ e1) _ _ (credit_v_src b _ _ e2) _) $$ [VaS VcS HO]
  · isplitr; · iexact HR
    isplitr [HO]
    · isplitl [VaS] <;> iassumption
    iexact HO
  iintro ⟨HO, VaS, Vs⟩
  iapply (wp_wait_rcv D κ c (true, b) _ (sem_7 b _ _ e1) _ _ (credit_v_dst b _ _ e2) _) $$ [VaR VcR HO]
  · isplitr; · iexact HR
    isplitr [HO]
    · isplitl [VaR] <;> iassumption
    iexact HO
  iintro ⟨HO, VaR, Vd⟩
  rw [wp_ret]
  imod (close D (κ (sndCell c (false, b))) (sndCell c (false, b))) $$ [KaS] with KaS
  · isplitr; · iexact IKaS
    iexact KaS
  imod (close D (κ (rcvCell c (false, b))) (rcvCell c (false, b))) $$ [KaR] with KaR
  · isplitr; · iexact IKaR
    iexact KaR
  imod (close D (κ (sndCell c (true, b))) (sndCell c (true, b))) $$ [VaS] with VaS
  · isplitr; · iexact IVaS
    iexact VaS
  imod (close D (κ (rcvCell c (true, b))) (rcvCell c (true, b))) $$ [VaR] with VaR
  · isplitr; · iexact IVaR
    iexact VaR
  imodintro
  iapply Hk
  iexists _
  unfold fin
  isplitl [Ks Kd KaS KaR]
  · isplitl [Ks]; · iexact Ks
    isplitl [Kd]; · iexact Kd
    isplitl [KaS] <;> iassumption
  isplitl [Vs Vd VaS VaR]
  · isplitl [Vs]; · iexact Vs
    isplitl [Vd]; · iexact Vd
    isplitl [VaS] <;> iassumption
  iexact HO

end Cert.Att

end
-- ==== Proof.Math.lean ====
/-
  The third stretch: loads and stores of one slot of four, and the arithmetic's two cases.
-/
module

public import proofs.«01_k».proof.Proof.Pieces

@[expose] public section

set_option maxRecDepth 16384

noncomputable section

namespace Cert.Att

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (D : Bool → Dev nD → Vec F S4x16x64x256 .bf16)

/-! ## One of four along the first axis -/

theorem inbL (b : Fin 4) : ∀ a, (![b.val, 0, 0, 0] : Fin 4 → ℕ) a + S1x16x1x256.size a ≤ S4x16x1x256.size a := by revert b; decide

abbrev chL (b : Fin 4) : Rect S4x16x1x256 := Rect.unit (s := S4x16x1x256) ![b.val, 0, 0, 0] S1x16x1x256.size (inbL b)

/-- Slot `b` of an array of four; -/
def slot {e : EltTy} (b : Fin 4) (X : Vec F S4x16x64x256 e) : Vec F S1x16x64x256 e := fun j => X ((chR b).emb j)
/-- of an array of four rows. -/
def slotL {e : EltTy} (b : Fin 4) (X : Vec F S4x16x1x256 e) : Vec F S1x16x1x256 e := fun j => X ((chL b).emb j)

theorem unit_disjoint {s : Shape} {off off' sz : Fin s.rank → ℕ} (h : ∀ a, off a + sz a ≤ s.size a) (h' : ∀ a, off' a + sz a ≤ s.size a)
    (a : Fin s.rank) (hd : off a + sz a ≤ off' a ∨ off' a + sz a ≤ off a) :
    Disjoint (Rect.unit (s := s) off sz h).set (Rect.unit (s := s) off' sz h').set := by
  rw [Finset.disjoint_left]
  intro y hy hy'
  have h1 := (Rect.mem_set_unit.mp hy) a
  have h2 := (Rect.mem_set_unit.mp hy') a
  omega

theorem ch_disjoint {b b' : Fin 4} (h : b' ≠ b) : Disjoint (chR b').set (chR b).set := by
  refine unit_disjoint _ _ 0 ?_
  have : b'.val ≠ b.val := fun e => h (Fin.ext e)
  show b'.val + 1 ≤ b.val ∨ b.val + 1 ≤ b'.val
  omega
theorem chL_disjoint {b b' : Fin 4} (h : b' ≠ b) : Disjoint (chL b').set (chL b).set := by
  refine unit_disjoint _ _ 0 ?_
  have : b'.val ≠ b.val := fun e => h (Fin.ext e)
  show b'.val + 1 ≤ b.val ∨ b.val + 1 ≤ b'.val
  omega

/-! ## Loads and stores of a slot -/

section Rules

variable (c : Dev nD) {α : Type}

/-- A load of a rectangle of an owned memref reads the owned contents there. -/
theorem wp_load_at {Q : α → sProp 𝕄} {sp : CoreSpace} {s : Shape} {e : EltTy} {m : Memref sig .tc sp s e} {r : Rect s} {hl : m.view.LoadsAt r} {q : PosShare TreeShare}
    {k : (r.shape.Idx → Elt F e) → Prog (TpuEff nD τ sig (Elt F) Λ₀ .tc) α} (X : s.Idx → Elt F e) (w : r.shape.Idx → Elt F e)
    (hw : (fun j => X (r.emb j)) = w) :
    (owns (c : Thread nD τ) m q X : sProp 𝕄)
      ⊢ iprop((owns (c : Thread nD τ) m q X -∗ wp frame (wpE (defs₀ (F := F)) 𝒱₀ (c : Thread nD τ) none) Set.univ (k w) Q)
          -∗ wp frame (wpE (defs₀ (F := F)) 𝒱₀ (c : Thread nD τ) none) Set.univ (.op (.load m r hl) k) Q) := by
  subst hw
  unfold owns
  iintro ⟨%f, %hf, H⟩ Hk
  have hr : (m.access r).read (Elt F) f = fun j => X (r.emb j) := by subst hf; rfl
  iapply (wp_load_rect 𝒱₀ (c : Thread nD τ) none Set.univ (m := m) (r := r) (S := m.view.set) (f := f) (View.set_slice_subset _ r)) $$ H
  iintro H
  rw [hr]
  iapply Hk
  iexists f
  isplitr; · ipureintro; exact hf
  iexact H

/-- A store to a rectangle of an owned memref: there what was stored, elsewhere what was. -/
theorem wp_store_at {Q : α → sProp 𝕄} {sp : CoreSpace} {s : Shape} {e : EltTy} {m : Memref sig .tc sp s e} {r : Rect s} {w : r.shape.Idx → Elt F e}
    {hx : (m.access r).Stores Finset.univ} {hm : Finset.univ = Finset.univ ∨ ∀ a, r.stride a = 1}
    {k : PUnit → Prog (TpuEff nD τ sig (Elt F) Λ₀ .tc) α} (X : s.Idx → Elt F e) :
    (owns (c : Thread nD τ) m fullShare X : sProp 𝕄)
      ⊢ iprop(((∃ X', ⌜(∀ j, X' (r.emb j) = w j) ∧ ∀ y, y ∉ r.set → X' y = X y⌝ ∗ owns (c : Thread nD τ) m fullShare X')
            -∗ wp frame (wpE (defs₀ (F := F)) 𝒱₀ (c : Thread nD τ) none) Set.univ (k ⟨⟩) Q)
          -∗ wp frame (wpE (defs₀ (F := F)) 𝒱₀ (c : Thread nD τ) none) Set.univ (.op (.store m r w Finset.univ hx hm) k) Q) := by
  unfold owns
  iintro ⟨%f, %hf, H⟩ Hk
  iapply (wp_store 𝒱₀ (c : Thread nD τ) none Set.univ (m := m) (r := r) (S := m.view.set) (f := f) (View.set_slice_subset _ r)) $$ H
  iintro H
  iapply Hk
  iexists (m.view.read (Elt F) ((m.access r).write (Elt F) f w Finset.univ))
  isplitr
  · ipureintro
    refine ⟨fun j => View.read_slice_write_emb r f w (Finset.mem_univ j), fun y hy => ?_⟩
    rw [← hf]
    exact View.read_slice_write_of_not_mem r f w Finset.univ (by rwa [Rect.map_emb_univ])
  iexists _
  isplitr; · ipureintro; rfl
  iexact H

/-- A load of a slot. -/
theorem wp_load_slot {Q : α → sProp 𝕄} {sp : CoreSpace} {e : EltTy} (m : Memref sig .tc sp S4x16x64x256 e) (b : Fin 4) (off : Fin 4 → ℕ)
    (h : ∀ a, off a + S1x16x64x256.size a ≤ S4x16x64x256.size a) (he : off = ![b.val, 0, 0, 0])
    {hl : m.view.LoadsAt (Rect.unit (s := S4x16x64x256) off S1x16x64x256.size h)} {q : PosShare TreeShare}
    {k : Vec F S1x16x64x256 e → Prog (TpuEff nD τ sig (Elt F) Λ₀ .tc) α} (X : Vec F S4x16x64x256 e) :
    (owns (c : Thread nD τ) m q X : sProp 𝕄)
      ⊢ iprop((owns (c : Thread nD τ) m q X -∗ wp frame (wpE (defs₀ (F := F)) 𝒱₀ (c : Thread nD τ) none) Set.univ (k (slot b X)) Q)
          -∗ wp frame (wpE (defs₀ (F := F)) 𝒱₀ (c : Thread nD τ) none) Set.univ
            (.op (.load m (Rect.unit (s := S4x16x64x256) off S1x16x64x256.size h).toLoadRect hl) k) Q) := by
  subst he
  exact wp_load_at c (r := chR b) X (slot b X) rfl
theorem wp_load_slotL {Q : α → sProp 𝕄} {sp : CoreSpace} {e : EltTy} (m : Memref sig .tc sp S4x16x1x256 e) (b : Fin 4) (off : Fin 4 → ℕ)
    (h : ∀ a, off a + S1x16x1x256.size a ≤ S4x16x1x256.size a) (he : off = ![b.val, 0, 0, 0])
    {hl : m.view.LoadsAt (Rect.unit (s := S4x16x1x256) off S1x16x1x256.size h)} {q : PosShare TreeShare}
    {k : Vec F S1x16x1x256 e → Prog (TpuEff nD τ sig (Elt F) Λ₀ .tc) α} (X : Vec F S4x16x1x256 e) :
    (owns (c : Thread nD τ) m q X : sProp 𝕄)
      ⊢ iprop((owns (c : Thread nD τ) m q X -∗ wp frame (wpE (defs₀ (F := F)) 𝒱₀ (c : Thread nD τ) none) Set.univ (k (slotL b X)) Q)
          -∗ wp frame (wpE (defs₀ (F := F)) 𝒱₀ (c : Thread nD τ) none) Set.univ
            (.op (.load m (Rect.unit (s := S4x16x1x256) off S1x16x1x256.size h).toLoadRect hl) k) Q) := by
  subst he
  exact wp_load_at c (r := chL b) X (slotL b X) rfl

/-- A load of the whole of one. -/
theorem wp_load_one {Q : α → sProp 𝕄} {sp : CoreSpace} {e : EltTy} (m : Memref sig .tc sp S1x16x64x256 e)
    (h : ∀ a, (![0, 0, 0, 0] : Fin 4 → ℕ) a + S1x16x64x256.size a ≤ S1x16x64x256.size a)
    {hl : m.view.LoadsAt (Rect.unit (s := S1x16x64x256) ![0, 0, 0, 0] S1x16x64x256.size h)} {q : PosShare TreeShare}
    {k : Vec F S1x16x64x256 e → Prog (TpuEff nD τ sig (Elt F) Λ₀ .tc) α} (X : Vec F S1x16x64x256 e) :
    (owns (c : Thread nD τ) m q X : sProp 𝕄)
      ⊢ iprop((owns (c : Thread nD τ) m q X -∗ wp frame (wpE (defs₀ (F := F)) 𝒱₀ (c : Thread nD τ) none) Set.univ (k X) Q)
          -∗ wp frame (wpE (defs₀ (F := F)) 𝒱₀ (c : Thread nD τ) none) Set.univ
            (.op (.load m (Rect.unit (s := S1x16x64x256) ![0, 0, 0, 0] S1x16x64x256.size h).toLoadRect hl) k) Q) := by
  refine wp_load_at c (r := Rect.unit (s := S1x16x64x256) ![0, 0, 0, 0] S1x16x64x256.size h) X X (funext fun j => congrArg X (funext fun a => Fin.ext ?_))
  rw [Rect.emb_apply]
  fin_cases a <;> simp [Rect.unit]

/-- A store to a slot: that slot is what was stored, the others are what they were. -/
theorem wp_store_slot {Q : α → sProp 𝕄} {sp : CoreSpace} {e : EltTy} (m : Memref sig .tc sp S4x16x64x256 e) (b : Fin 4) (off : Fin 4 → ℕ)
    (h : ∀ a, off a + S1x16x64x256.size a ≤ S4x16x64x256.size a) (he : off = ![b.val, 0, 0, 0]) (w : Vec F S1x16x64x256 e)
    {hx : (m.access (Rect.unit (s := S4x16x64x256) off S1x16x64x256.size h)).Stores Finset.univ}
    {hm : Finset.univ = Finset.univ ∨ ∀ a, (Rect.unit (s := S4x16x64x256) off S1x16x64x256.size h).stride a = 1}
    {k : PUnit → Prog (TpuEff nD τ sig (Elt F) Λ₀ .tc) α} (X : Vec F S4x16x64x256 e) :
    (owns (c : Thread nD τ) m fullShare X : sProp 𝕄)
      ⊢ iprop(((∃ X' : Vec F S4x16x64x256 e, ⌜slot b X' = w ∧ ∀ b', b' ≠ b → slot b' X' = slot b' X⌝ ∗ owns (c : Thread nD τ) m fullShare X')
            -∗ wp frame (wpE (defs₀ (F := F)) 𝒱₀ (c : Thread nD τ) none) Set.univ (k ⟨⟩) Q)
          -∗ wp frame (wpE (defs₀ (F := F)) 𝒱₀ (c : Thread nD τ) none) Set.univ
            (.op (.store m (Rect.unit (s := S4x16x64x256) off S1x16x64x256.size h) w Finset.univ hx hm) k) Q) := by
  subst he
  iintro H Hk
  iapply (wp_store_at c (m := m) (r := chR b) X) $$ H
  iintro ⟨%X', %hX, H⟩
  iapply Hk
  iexists X'
  isplitr
  · ipureintro
    refine ⟨funext hX.1, fun b' hb => funext fun j => hX.2 _ fun hj => ?_⟩
    refine Finset.disjoint_left.mp (ch_disjoint hb) ?_ hj
    rw [← Rect.map_emb_univ]; exact Finset.mem_map_of_mem _ (Finset.mem_univ j)
  iexact H
theorem wp_store_slotL {Q : α → sProp 𝕄} {sp : CoreSpace} {e : EltTy} (m : Memref sig .tc sp S4x16x1x256 e) (b : Fin 4) (off : Fin 4 → ℕ)
    (h : ∀ a, off a + S1x16x1x256.size a ≤ S4x16x1x256.size a) (he : off = ![b.val, 0, 0, 0]) (w : Vec F S1x16x1x256 e)
    {hx : (m.access (Rect.unit (s := S4x16x1x256) off S1x16x1x256.size h)).Stores Finset.univ}
    {hm : Finset.univ = Finset.univ ∨ ∀ a, (Rect.unit (s := S4x16x1x256) off S1x16x1x256.size h).stride a = 1}
    {k : PUnit → Prog (TpuEff nD τ sig (Elt F) Λ₀ .tc) α} (X : Vec F S4x16x1x256 e) :
    (owns (c : Thread nD τ) m fullShare X : sProp 𝕄)
      ⊢ iprop(((∃ X' : Vec F S4x16x1x256 e, ⌜slotL b X' = w ∧ ∀ b', b' ≠ b → slotL b' X' = slotL b' X⌝ ∗ owns (c : Thread nD τ) m fullShare X')
            -∗ wp frame (wpE (defs₀ (F := F)) 𝒱₀ (c : Thread nD τ) none) Set.univ (k ⟨⟩) Q)
          -∗ wp frame (wpE (defs₀ (F := F)) 𝒱₀ (c : Thread nD τ) none) Set.univ
            (.op (.store m (Rect.unit (s := S4x16x1x256) off S1x16x1x256.size h) w Finset.univ hx hm) k) Q) := by
  subst he
  iintro H Hk
  iapply (wp_store_at c (m := m) (r := chL b) X) $$ H
  iintro ⟨%X', %hX, H⟩
  iapply Hk
  iexists X'
  isplitr
  · ipureintro
    refine ⟨funext hX.1, fun b' hb => funext fun j => hX.2 _ fun hj => ?_⟩
    refine Finset.disjoint_left.mp (chL_disjoint hb) ?_ hj
    rw [← Rect.map_emb_univ]; exact Finset.mem_map_of_mem _ (Finset.mem_univ j)
  iexact H

/-- A load of a landed chunk reads the partner's. -/
theorem wp_load_land {Q : α → sProp 𝕄} (x : Bool) (b : Fin 4) (off : Fin 4 → ℕ)
    (h : ∀ a, off a + S1x16x64x256.size a ≤ S4x16x64x256.size a) (he : off = ![b.val, 0, 0, 0])
    {hl : (rM x).view.LoadsAt (Rect.unit (s := S4x16x64x256) off S1x16x64x256.size h)}
    {k : Vec F S1x16x64x256 .bf16 → Prog (TpuEff nD τ sig (Elt F) Λ₀ .tc) α} :
    (dPts c (x, b) (rC D x c) : sProp 𝕄)
      ⊢ iprop((dPts c (x, b) (rC D x c) -∗ wp frame (wpE (defs₀ (F := F)) 𝒱₀ (c : Thread nD τ) none) Set.univ (k (slot b (D x (pn c)))) Q)
          -∗ wp frame (wpE (defs₀ (F := F)) 𝒱₀ (c : Thread nD τ) none) Set.univ
            (.op (.load (rM x) (Rect.unit (s := S4x16x64x256) off S1x16x64x256.size h).toLoadRect hl) k) Q) := by
  subst he
  have hr : ((rM x).access (chR b)).read (Elt F) (rC D x c) = slot b (D x (pn c)) := by cases x <;> rfl
  rw [← hr]
  exact wp_load_rect 𝒱₀ (c : Thread nD τ) none Set.univ (m := rM x) (r := chR b) (S := (dstM (x, b)).view.set) (f := rC D x c)
    (by rw [dst_set_access])

end Rules

/-! ## The arithmetic's two cases -/

/-- First pass: the point's own chunk of keys and values gives slot `b` of the accumulator and of the sums. -/
theorem math_run0 (c : Dev nD) (i : grid0.Coords) (h3 : k0_cond3 i = 1#1) (h4 : ¬ k0_cond4 i = 1#1) (b : Fin 4) (hb : (i 1).val = b.val)
    (qM : Memref sig .tc .vmem S4x16x64x256 .bf16) (hq : qM.IsWhole)
    (kM : Memref sig .tc .vmem S1x16x64x256 .bf16) (hk : kM.IsWhole) (vM : Memref sig .tc .vmem S1x16x64x256 .bf16) (hv : vM.IsWhole)
    (oM : Memref sig .tc .vmem S4x16x64x256 .bf16) (ho : oM.IsWhole) (Kt : PUnit → sProp 𝕄)
    (Xq : Vec F S4x16x64x256 .bf16) (Xk Xv : Vec F S1x16x64x256 .bf16) (Xo : Vec F S4x16x64x256 .f32) (Xl : Vec F S4x16x1x256 .f32) :
    iprop(owns (c : Thread nD τ) qM fullShare Xq ∗ owns (c : Thread nD τ) kM fullShare Xk ∗ owns (c : Thread nD τ) vM fullShare Xv
        ∗ owns (c : Thread nD τ) (Memref.whole cc0_scratch2) fullShare Xo ∗ owns (c : Thread nD τ) (Memref.whole cc0_scratch3) fullShare Xl)
      ⊢ iprop(((owns (c : Thread nD τ) qM fullShare Xq ∗ owns (c : Thread nD τ) kM fullShare Xk ∗ owns (c : Thread nD τ) vM fullShare Xv
          ∗ (∃ Xo' : Vec F S4x16x64x256 .f32, ⌜slot b Xo' = k0_pay3 (slot b Xq) Xk Xv ∧ ∀ b', b' ≠ b → slot b' Xo' = slot b' Xo⌝
              ∗ owns (c : Thread nD τ) (Memref.whole cc0_scratch2) fullShare Xo')
          ∗ (∃ Xl' : Vec F S4x16x1x256 .f32, ⌜slotL b Xl' = k0_pay4 (slot b Xq) Xk ∧ ∀ b', b' ≠ b → slotL b' Xl' = slotL b' Xl⌝
              ∗ owns (c : Thread nD τ) (Memref.whole cc0_scratch3) fullShare Xl')) -∗ Kt ⟨⟩)
          -∗ wp frame (wpE (defs₀ (F := F)) 𝒱₀ (c : Thread nD τ) none) Set.univ (mathP i qM hq kM hk vM hv oM ho) Kt) := by
  have e3 : k0_off3 i = ![b.val, 0, 0, 0] := by rw [k0_off3_eq, hb]
  have e4 : k0_off4 i = ![b.val, 0, 0, 0] := by rw [k0_off4_eq, hb]
  have e5 : k0_off5 i = ![b.val, 0, 0, 0] := by rw [k0_off5_eq, hb]
  unfold mathP
  simp only [h3, h4, dif_pos, dif_neg, not_false_eq_true, Prog.lift, Prog.bind_op, Prog.bind_ret, Prog.pure_eq_ret]
  iintro ⟨Hq, Hk, Hv, Ho, Hl⟩ HK
  iapply (wp_load_slot c qM b _ _ e3 Xq) $$ Hq
  iintro Hq
  iapply (wp_load_one c kM _ Xk) $$ Hk
  iintro Hk
  iapply (wp_load_one c vM _ Xv) $$ Hv
  iintro Hv
  iapply (wp_load_slot c (Memref.whole cc0_scratch2) b _ _ e4 Xo) $$ Ho
  iintro Ho
  iapply (wp_store_slot c (Memref.whole cc0_scratch2) b _ _ e4 _ Xo) $$ Ho
  iintro Ho
  iapply (wp_load_slotL c (Memref.whole cc0_scratch3) b _ _ e5 Xl) $$ Hl
  iintro Hl
  iapply (wp_store_slotL c (Memref.whole cc0_scratch3) b _ _ e5 _ Xl) $$ Hl
  iintro Hl
  rw [wp_ret]
  imodintro
  iapply HK
  isplitl [Hq]; · iexact Hq
  isplitl [Hk]; · iexact Hk
  isplitl [Hv]; · iexact Hv
  isplitl [Ho] <;> iassumption

/-- Second pass: the landed chunk and what the first pass left give slot `b` of the output. -/
theorem math_run1 (c : Dev nD) (i : grid0.Coords) (h3 : ¬ k0_cond3 i = 1#1) (h4 : k0_cond4 i = 1#1) (b : Fin 4) (hb : (i 1).val = b.val)
    (qM : Memref sig .tc .vmem S4x16x64x256 .bf16) (hq : qM.IsWhole)
    (kM : Memref sig .tc .vmem S1x16x64x256 .bf16) (hk : kM.IsWhole) (vM : Memref sig .tc .vmem S1x16x64x256 .bf16) (hv : vM.IsWhole)
    (oM : Memref sig .tc .vmem S4x16x64x256 .bf16) (ho : oM.IsWhole) (Kt : PUnit → sProp 𝕄)
    (Xq : Vec F S4x16x64x256 .bf16) (Xo : Vec F S4x16x64x256 .f32) (Xl : Vec F S4x16x1x256 .f32) (Xr : Vec F S4x16x64x256 .bf16) :
    iprop(owns (c : Thread nD τ) qM fullShare Xq ∗ dPts c (false, b) (rC D false c) ∗ dPts c (true, b) (rC D true c)
        ∗ owns (c : Thread nD τ) (Memref.whole cc0_scratch2) fullShare Xo ∗ owns (c : Thread nD τ) (Memref.whole cc0_scratch3) fullShare Xl
        ∗ owns (c : Thread nD τ) oM fullShare Xr)
      ⊢ iprop(((owns (c : Thread nD τ) qM fullShare Xq ∗ dPts c (false, b) (rC D false c) ∗ dPts c (true, b) (rC D true c)
          ∗ owns (c : Thread nD τ) (Memref.whole cc0_scratch2) fullShare Xo ∗ owns (c : Thread nD τ) (Memref.whole cc0_scratch3) fullShare Xl
          ∗ (∃ Xr' : Vec F S4x16x64x256 .bf16, ⌜slot b Xr' = k0_pay5 (slot b Xq) (slot b (D false (pn c))) (slotL b Xl) (slot b (D true (pn c))) (slot b Xo)
                ∧ ∀ b', b' ≠ b → slot b' Xr' = slot b' Xr⌝
              ∗ owns (c : Thread nD τ) oM fullShare Xr')) -∗ Kt ⟨⟩)
          -∗ wp frame (wpE (defs₀ (F := F)) 𝒱₀ (c : Thread nD τ) none) Set.univ (mathP i qM hq kM hk vM hv oM ho) Kt) := by
  have e3 : k0_off3 i = ![b.val, 0, 0, 0] := by rw [k0_off3_eq, hb]
  have e6 : k0_off6 i = ![b.val, 0, 0, 0] := by rw [k0_off6_eq, hb]
  have e7 : k0_off7 i = ![b.val, 0, 0, 0] := by rw [k0_off7_eq, hb]
  unfold mathP
  simp only [h3, h4, dif_pos, dif_neg, not_false_eq_true, Prog.lift, Prog.bind_op, Prog.bind_ret, Prog.pure_eq_ret]
  iintro ⟨Hq, Hk, Hv, Ho, Hl, Hr⟩ HK
  iapply (wp_load_slot c qM b _ _ e3 Xq) $$ Hq
  iintro Hq
  iapply (wp_load_land D c false b _ _ e6) $$ Hk
  iintro Hk
  iapply (wp_load_slotL c (Memref.whole cc0_scratch3) b _ _ e7 Xl) $$ Hl
  iintro Hl
  iapply (wp_load_land D c true b _ _ e6) $$ Hv
  iintro Hv
  iapply (wp_load_slot c (Memref.whole cc0_scratch2) b _ _ e6 Xo) $$ Ho
  iintro Ho
  iapply (wp_load_slot c oM b _ _ e6 Xr) $$ Hr
  iintro Hr
  iapply (wp_store_slot c oM b _ _ e6 _ Xr) $$ Hr
  iintro Hr
  rw [wp_ret]
  imodintro
  iapply HK
  isplitl [Hq]; · iexact Hq
  isplitl [Hk]; · iexact Hk
  isplitl [Hv]; · iexact Hv
  isplitl [Ho]; · iexact Ho
  isplitl [Hl] <;> iassumption

end Cert.Att

end
-- ==== Proof.Data.lean ====
/-
  The region's proof data: what every device's buffers hold before each point, and what the body leaves.
-/
module

public import proofs.«01_k».proof.Proof.Start
public import proofs.«01_k».proof.Proof.Waits
public import proofs.«01_k».proof.Proof.Math
public import proofs.«01_k».proof.Proof.Gen.KernelIdeal.Frame

@[expose] public section

set_option maxRecDepth 16384

noncomputable section

namespace Cert.Att

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Contents -/

/-- The scaled queries; keys and values; of device `c`, as the region finds them. -/
def qD (c : Dev nD) : Vec F S4x16x64x256 .bf16 := V m c main_v4
def kvD : Bool → Dev nD → Vec F S4x16x64x256 .bf16
  | false => fun c => V m c main_v6
  | true => fun c => V m c main_v8

/-- Slot `b` of what the first pass leaves: the weighted values; -/
def oAt (c : Dev nD) (b : Fin 4) : Vec F S1x16x64x256 .f32 :=
  k0_pay3 (slot b (qD m c)) (slot b (kvD m false c)) (slot b (kvD m true c))
/-- the sums of the weights. -/
def lAt (c : Dev nD) (b : Fin 4) : Vec F S1x16x1x256 .f32 := k0_pay4 (slot b (qD m c)) (slot b (kvD m false c))
/-- Slot `b` of the output. -/
def rAt (c : Dev nD) (b : Fin 4) : Vec F S1x16x64x256 .bf16 :=
  k0_pay5 (slot b (qD m c)) (slot b (kvD m false (pn c))) (lAt m c b) (slot b (kvD m true (pn c))) (oAt m c b)

/-! ## The invariant -/

/-- The barrier cell: before the first point as the handshake needs it, then closed. -/
def barAt (c : Dev nD) (n : ℕ) : sProp 𝕄 := if n = 0 then bar0 (F := F) c else semVal (barCell c) 0
/-- A transfer before point `n`: not started at 0, in flight till its wait at point `4 + chunk`, then done. -/
def trAt (c : Dev nD) (n : ℕ) (k : Tr) : sProp 𝕄 :=
  if n = 0 then iprop(init0 (kvD m) c k ∗ land0 (F := F) c k) else if n ≤ 4 + k.2.val then pend (F := F) c k else fin (kvD m) c k
/-- The first pass's two buffers before point `n`: the slots below `n` are done. -/
def sumsAt (c : Dev nD) (n : ℕ) : sProp 𝕄 :=
  iprop(∃ (Xo : Vec F S4x16x64x256 .f32) (Xl : Vec F S4x16x1x256 .f32),
    ⌜∀ b : Fin 4, b.val < n → slot b Xo = oAt m c b ∧ slotL b Xl = lAt m c b⌝
    ∗ owns (c : Thread nD τ) (Memref.whole cc0_scratch2) fullShare Xo ∗ owns (c : Thread nD τ) (Memref.whole cc0_scratch3) fullShare Xl)

/-- The body's invariant before point `n`. -/
def inv (c : Dev nD) (n : ℕ) : sProp 𝕄 :=
  iprop((∃ κ, recs (kvD m) κ) ∗ barAt (F := F) c n ∗ bigSep Finset.univ (trAt m c n) ∗ sumsAt m c n)

/-! ## The proof data -/

/-- What window 3's buffer holds after point `t`: the slots of the points `4 … t` done. -/
def outOk (c : Dev nD) (t : ℕ) (X : Vec F S4x16x64x256 .bf16) : Prop := ∀ b : Fin 4, b.val + 4 ≤ t → slot b X = rAt m c b

def dats : (p : Fin 1) → (c : Dev nD) → Pipeline.RDat τ (Elt F) Unit ℕ UU ℕ (cfgs p) c := fun
  | 0 => fun c =>
    { A := fun w => V m c (Pipeline.arrRef spec0 w)
      after := fun w t => match w with
        | 0 => fun Y X => X = Y
        | 1 => fun Y X => X = Y
        | 2 => fun Y X => X = Y
        | 3 => fun _ X => outOk m c t.val X
      Φ := fun t => inv m c t.val
      q := fun w => match w with
        | 0 => fullShare
        | 1 => fullShare.left
        | 2 => fullShare.left
        | 3 => fullShare
      owed := fun t => if t.val = 0 then O₀ c else 0 }

/-! ## What the windows' buffers hold -/

theorem coord0 : ∀ t : Fin cfg0.N, (cfg0.grid.coords t 0).val = t.val / 4 := by decide +kernel
theorem coord1 : ∀ t : Fin cfg0.N, (cfg0.grid.coords t 1).val = t.val % 4 := by decide +kernel

theorem off0 : ∀ t : Fin cfg0.N, ∀ a, ((cfg0.win 0).rect t).off a = 0 := by decide +kernel
theorem off1 : ∀ t : Fin cfg0.N, ∀ a, ((cfg0.win 1).rect t).off a = (![t.val % 4, 0, 0, 0] : Fin 4 → ℕ) a := by decide +kernel
theorem off2 : ∀ t : Fin cfg0.N, ∀ a, ((cfg0.win 2).rect t).off a = (![t.val % 4, 0, 0, 0] : Fin 4 → ℕ) a := by decide +kernel

theorem finds0 (c : Dev nD) (t : Fin cfg0.N) (Y : Vec F S4x16x64x256 .bf16) (h : (dats m 0 c).Finds 0 t Y) : Y = qD m c := by
  obtain ⟨d, h⟩ := Pipeline.RDat.finds_in_eq_fetched (dats m 0 c) 0 rfl (fun _ _ _ => rfl) (fun _ _ _ h => h) t Y h
  refine h.trans (funext fun j => ?_)
  show V m c main_v4 (((cfg0.win 0).rect t).emb j) = V m c main_v4 j
  refine congrArg _ (funext fun a => Fin.ext ?_)
  rw [Rect.emb_apply, off0]
  simp
theorem finds1 (c : Dev nD) (t : Fin cfg0.N) (b : Fin 4) (hb : t.val % 4 = b.val) (Y : Vec F S1x16x64x256 .bf16) (h : (dats m 0 c).Finds 1 t Y) :
    Y = slot b (kvD m false c) := by
  obtain ⟨d, h⟩ := Pipeline.RDat.finds_in_eq_fetched (dats m 0 c) 1 rfl (fun _ _ _ => rfl) (fun _ _ _ h => h) t Y h
  refine h.trans (funext fun j => ?_)
  show V m c main_v6 (((cfg0.win 1).rect t).emb j) = V m c main_v6 ((chR b).emb j)
  refine congrArg _ (funext fun a => Fin.ext ?_)
  rw [Rect.emb_apply, Rect.emb_apply, off1, hb]
  rfl
theorem finds2 (c : Dev nD) (t : Fin cfg0.N) (b : Fin 4) (hb : t.val % 4 = b.val) (Y : Vec F S1x16x64x256 .bf16) (h : (dats m 0 c).Finds 2 t Y) :
    Y = slot b (kvD m true c) := by
  obtain ⟨d, h⟩ := Pipeline.RDat.finds_in_eq_fetched (dats m 0 c) 2 rfl (fun _ _ _ => rfl) (fun _ _ _ h => h) t Y h
  refine h.trans (funext fun j => ?_)
  show V m c main_v8 (((cfg0.win 2).rect t).emb j) = V m c main_v8 ((chR b).emb j)
  refine congrArg _ (funext fun a => Fin.ext ?_)
  rw [Rect.emb_apply, Rect.emb_apply, off2, hb]
  rfl
theorem finds3 (c : Dev nD) (t : Fin cfg0.N) (n : ℕ) (ht : t.val = n + 1) (Y : Vec F S4x16x64x256 .bf16) (h : (dats m 0 c).Finds 3 t Y) :
    outOk m c n Y := by
  rcases ((dats m 0 c).finds_of_pos (w := 3) (t := t) rfl (by omega) Y).mp h with hf | ⟨Y', -, hR⟩
  · have h7 := (flush0_3 _).mp hf
    have := t.isLt
    simp only [show (cfgs 0).N = 8 from N_0] at this
    dsimp only at h7
    omega
  · have e : t.val - 1 = n := by omega
    have hR' : outOk m c (t.val - 1) Y := hR
    rwa [e] at hR'

end Cert.Att

end
-- ==== Proof.Body.lean ====
/-
  The body's run at every point.
-/
module

public import proofs.«01_k».proof.Proof.Data

@[expose] public section

set_option maxRecDepth 16384

noncomputable section

namespace Cert.Att

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Which stretches run at a point -/

theorem cond1_iff : ∀ t : Fin grid0.N, k0_cond1 (grid0.coords t) = 1#1 ↔ t.val = 0 := by decide +kernel
theorem cond2_iff : ∀ t : Fin grid0.N, k0_cond2 (grid0.coords t) = 1#1 ↔ 4 ≤ t.val := by decide +kernel
theorem cond3_iff : ∀ t : Fin grid0.N, k0_cond3 (grid0.coords t) = 1#1 ↔ t.val < 4 := by decide +kernel
theorem cond4_iff : ∀ t : Fin grid0.N, k0_cond4 (grid0.coords t) = 1#1 ↔ 4 ≤ t.val := by decide +kernel

section None

variable (i : grid0.Coords) (qM : Memref sig .tc .vmem S4x16x64x256 .bf16) (hq : qM.IsWhole)
    (kM : Memref sig .tc .vmem S1x16x64x256 .bf16) (hk : kM.IsWhole) (vM : Memref sig .tc .vmem S1x16x64x256 .bf16) (hv : vM.IsWhole)
    (oM : Memref sig .tc .vmem S4x16x64x256 .bf16) (ho : oM.IsWhole) (d0 : Dev nD)

theorem start_none (h : ¬ k0_cond1 i = 1#1) : startP (F := F) i qM hq kM hk vM hv oM ho d0 = .ret ⟨⟩ := by
  unfold startP; simp only [h, dif_neg, not_false_eq_true]; rfl
theorem wait_none (h : ¬ k0_cond2 i = 1#1) : waitP (F := F) i qM hq kM hk vM hv oM ho d0 = .ret ⟨⟩ := by
  unfold waitP; simp only [h, dif_neg, not_false_eq_true]; rfl

end None

/-! ## The invariant's pieces from point to point -/

theorem trAt_zero (c : Dev nD) (k : Tr) : trAt m c 0 k = iprop(init0 (kvD m) c k ∗ land0 (F := F) c k) := if_pos rfl
theorem trAt_pend (c : Dev nD) (n : ℕ) (h0 : n ≠ 0) (k : Tr) (h : n ≤ 4 + k.2.val) : trAt m c n k = pend (F := F) c k := by
  unfold trAt; rw [if_neg h0, if_pos h]
theorem trAt_fin (c : Dev nD) (n : ℕ) (k : Tr) (h : 4 + k.2.val < n) : trAt m c n k = fin (kvD m) c k := by
  unfold trAt; rw [if_neg (by omega), if_neg (by omega)]
theorem trAt_first (c : Dev nD) (n : ℕ) (h0 : n ≠ 0) (h : n ≤ 4) : bigSep Finset.univ (trAt m c n) = bigSep Finset.univ (pend (F := F) c) := by
  refine congrArg _ (funext fun k => trAt_pend m c n h0 k (by omega))

/-- Another transfer than a point's stays as it is across the point. -/
theorem trAt_other (c : Dev nD) (n : ℕ) (h : 4 ≤ n) (k : Tr) (hk : 4 + k.2.val ≠ n) : trAt m c (n + 1) k = trAt m c n k := by
  by_cases h' : n ≤ 4 + k.2.val
  · rw [trAt_pend m c n (by omega) k h', trAt_pend m c (n + 1) (by omega) k (by omega)]
  · rw [trAt_fin m c n k (by omega), trAt_fin m c (n + 1) k (by omega)]

/-- The transfers but a chunk's two. -/
def others (b : Fin 4) : Finset Tr := (Finset.univ.erase (false, b)).erase (true, b)

theorem split_tr (b : Fin 4) (Φ : Tr → sProp 𝕄) :
    bigSep Finset.univ Φ = iprop(Φ (false, b) ∗ Φ (true, b) ∗ bigSep (others b) Φ) := by
  rw [bigSep_erase (i := ((false, b) : Tr)) (Finset.mem_univ _), bigSep_erase (s := Finset.univ.erase ((false, b) : Tr)) (i := ((true, b) : Tr))
    (Finset.mem_erase.mpr ⟨by simp, Finset.mem_univ _⟩)]
  rfl

theorem others_at (c : Dev nD) (b : Fin 4) (n : ℕ) (hn : n = 4 + b.val) : bigSep (others b) (trAt m c (n + 1)) = bigSep (others b) (trAt m c n) := by
  refine bigSep_congr fun k hk => trAt_other m c n (by omega) k fun e => ?_
  obtain ⟨h1, h2⟩ := Finset.mem_erase.mp hk
  obtain ⟨h3, -⟩ := Finset.mem_erase.mp h2
  have e' : k.2 = b := Fin.ext (by omega)
  obtain ⟨x, y⟩ := k
  cases x
  · exact h3 (by rw [← e'])
  · exact h1 (by rw [← e'])

theorem sumsAt_const (c : Dev nD) (n n' : ℕ) (h : 4 ≤ n) : sumsAt m c n ⊢ sumsAt m c n' := by
  unfold sumsAt
  iintro ⟨%Xo, %Xl, %hX, Ho, Hl⟩
  iexists Xo
  iexists Xl
  isplitr
  · ipureintro
    exact fun b _ => hX b (by omega)
  isplitl [Ho] <;> iassumption

/-! ## The three kinds of points -/

section Points

variable (c : Dev nD) (t : Fin cfg0.N)
    (qM : Memref sig .tc .vmem S4x16x64x256 .bf16) (hq : qM.IsWhole)
    (kM : Memref sig .tc .vmem S1x16x64x256 .bf16) (hk : kM.IsWhole) (vM : Memref sig .tc .vmem S1x16x64x256 .bf16) (hv : vM.IsWhole)
    (oM : Memref sig .tc .vmem S4x16x64x256 .bf16) (ho : oM.IsWhole)

/-- The first pass's arithmetic at chunk `b`, over the sums. -/
theorem sums_run0 (b : Fin 4) (ht : t.val = b.val) (Kt : PUnit → sProp 𝕄) :
    iprop(sumsAt m c t.val ∗ owns (c : Thread nD τ) qM fullShare (qD m c) ∗ owns (c : Thread nD τ) kM fullShare (slot b (kvD m false c))
        ∗ owns (c : Thread nD τ) vM fullShare (slot b (kvD m true c)))
      ⊢ iprop(((sumsAt m c (t.val + 1) ∗ owns (c : Thread nD τ) qM fullShare (qD m c) ∗ owns (c : Thread nD τ) kM fullShare (slot b (kvD m false c))
          ∗ owns (c : Thread nD τ) vM fullShare (slot b (kvD m true c))) -∗ Kt ⟨⟩)
        -∗ wp frame (wpE (defs₀ (F := F)) 𝒱₀ (c : Thread nD τ) none) Set.univ (mathP (grid0.coords t) qM hq kM hk vM hv oM ho) Kt) := by
  unfold sumsAt
  iintro ⟨⟨%Xo, %Xl, %hX, Ho, Hl⟩, Hq, Hk, Hv⟩ HK
  iapply (math_run0 c (grid0.coords t) ((cond3_iff t).mpr (by omega)) (fun h => by have := (cond4_iff t).mp h; omega) b
    ((coord1 t).trans (by omega)) qM hq kM hk vM hv oM ho Kt (qD m c) (slot b (kvD m false c)) (slot b (kvD m true c)) Xo Xl) $$ [Ho Hl Hq Hk Hv]
  · isplitl [Hq]; · iexact Hq
    isplitl [Hk]; · iexact Hk
    isplitl [Hv]; · iexact Hv
    isplitl [Ho] <;> iassumption
  iintro ⟨Hq, Hk, Hv, ⟨%Xo', %ho', Ho⟩, ⟨%Xl', %hl', Hl⟩⟩
  iapply HK
  isplitr [Hq Hk Hv]
  · iexists Xo'
    iexists Xl'
    isplitr
    · ipureintro
      intro b' hb'
      by_cases e : b' = b
      · subst e
        exact ⟨ho'.1, hl'.1⟩
      · have hlt : b'.val < t.val := by
          have := fun h => e (Fin.ext h)
          omega
        exact ⟨(ho'.2 b' e).trans (hX b' hlt).1, (hl'.2 b' e).trans (hX b' hlt).2⟩
    isplitl [Ho] <;> iassumption
  isplitl [Hq]; · iexact Hq
  isplitl [Hk] <;> iassumption

/-- The body at a point. -/
abbrev bodyP : Prog (TpuEff nD τ sig (Elt F) Λ₀ .tc) PUnit :=
  cc0_body (F := F) (grid0.coords t) (Memref.whole main_v6) (Memref.isWhole_whole _) (Memref.whole main_v8) (Memref.isWhole_whole _) qM hq kM hk vM hv oM ho
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    cc0_scratch4 cc0_scratch5 cc0_scratch6 cc0_scratch7

theorem body_wp (Kt : PUnit → sProp 𝕄) :
    wp frame (wpE (defs₀ (F := F)) 𝒱₀ (c : Thread nD τ) none) Set.univ (bodyP (F := F) t qM hq kM hk vM hv oM ho) Kt
      = wp frame (wpE (defs₀ (F := F)) 𝒱₀ (c : Thread nD τ) none) Set.univ (startP (grid0.coords t) qM hq kM hk vM hv oM ho c) fun _ =>
          wp frame (wpE (defs₀ (F := F)) 𝒱₀ (c : Thread nD τ) none) Set.univ (waitP (grid0.coords t) qM hq kM hk vM hv oM ho c) fun _ =>
            wp frame (wpE (defs₀ (F := F)) 𝒱₀ (c : Thread nD τ) none) Set.univ (mathP (grid0.coords t) qM hq kM hk vM hv oM ho) Kt := by
  unfold bodyP
  rw [body_split]
  simp only [Prog.lift, Prog.bind_op, Prog.bind_ret, wp_deviceId, wp_bind]

/-- At a point of the first pass. -/
theorem point_run0 (b : Fin 4) (ht : t.val = b.val) (Yr : Vec F S4x16x64x256 .bf16) (W : Waits sig Unit) (Kt : PUnit → sProp 𝕄) :
    iprop(inv m c t.val ∗ owes (c : Thread nD τ) (if t.val = 0 then O₀ c else 0) W
        ∗ owns (c : Thread nD τ) qM fullShare (qD m c) ∗ owns (c : Thread nD τ) kM fullShare (slot b (kvD m false c))
        ∗ owns (c : Thread nD τ) vM fullShare (slot b (kvD m true c)) ∗ owns (c : Thread nD τ) oM fullShare Yr)
      ⊢ iprop(((inv m c (t.val + 1) ∗ (∃ W', owes (c : Thread nD τ) 0 W')
          ∗ owns (c : Thread nD τ) qM fullShare (qD m c) ∗ owns (c : Thread nD τ) kM fullShare (slot b (kvD m false c))
          ∗ owns (c : Thread nD τ) vM fullShare (slot b (kvD m true c)) ∗ (∃ X, ⌜outOk m c t.val X⌝ ∗ owns (c : Thread nD τ) oM fullShare X)) -∗ Kt ⟨⟩)
        -∗ wp frame (wpE (defs₀ (F := F)) 𝒱₀ (c : Thread nD τ) none) Set.univ (bodyP (F := F) t qM hq kM hk vM hv oM ho) Kt) := by
  have hok : outOk m c t.val Yr := fun b' h => by omega
  rw [body_wp, wait_none _ qM hq kM hk vM hv oM ho c (fun h => by have := (cond2_iff t).mp h; omega)]
  simp only [wp_ret]
  by_cases h0 : t.val = 0
  · unfold inv
    rw [trAt_first m c (t.val + 1) (by omega) (by omega), if_pos h0]
    have eT : bigSep Finset.univ (trAt m c t.val)
        = iprop(bigSep Finset.univ (init0 (kvD m) c) ∗ bigSep Finset.univ (land0 (F := F) c)) := by
      rw [← bigSep_sep']
      exact congrArg _ (funext fun k => by rw [h0, trAt_zero])
    have eB : barAt (F := F) c t.val = bar0 c := if_pos h0
    have eB' : barAt (F := F) c (t.val + 1) = semVal (barCell c) 0 := if_neg (by omega)
    rw [eT, eB, eB']
    iintro ⟨⟨⟨%κ, #HR⟩, HB, ⟨Hi, Hl⟩, HS⟩, HO, Hq, Hk, Hv, Hr⟩ HK
    iapply (start_run (kvD m) κ c (grid0.coords t) ((cond1_iff t).mpr h0) qM hq kM hk vM hv oM ho W) $$ [HB Hi Hl HO]
    · isplitr; · iexact HR
      isplitl [HB]; · iexact HB
      isplitl [Hi]; · iexact Hi
      isplitl [Hl] <;> iassumption
    iintro ⟨%W', HB, HP, HO⟩
    imodintro
    iapply (sums_run0 m c t qM hq kM hk vM hv oM ho b ht Kt) $$ [HS Hq Hk Hv]
    · isplitl [HS]; · iexact HS
      isplitl [Hq]; · iexact Hq
      isplitl [Hk] <;> iassumption
    iintro ⟨HS, Hq, Hk, Hv⟩
    iapply HK
    isplitl [HB HP HS]
    · isplitr
      · iexists κ
        iexact HR
      isplitl [HB]; · iexact HB
      isplitl [HP] <;> iassumption
    isplitl [HO]; · iexists W'; iexact HO
    isplitl [Hq]; · iexact Hq
    isplitl [Hk]; · iexact Hk
    isplitl [Hv]; · iexact Hv
    iexists Yr
    isplitr
    · ipureintro
      exact hok
    iexact Hr
  · rw [start_none _ qM hq kM hk vM hv oM ho c (fun h => h0 ((cond1_iff t).mp h))]
    simp only [wp_ret]
    unfold inv
    rw [trAt_first m c (t.val + 1) (by omega) (by omega), trAt_first m c t.val (by omega) (by omega), if_neg h0]
    have eB : barAt (F := F) c t.val = semVal (barCell c) 0 := if_neg (by omega)
    have eB' : barAt (F := F) c (t.val + 1) = semVal (barCell c) 0 := if_neg (by omega)
    rw [eB, eB']
    iintro ⟨⟨HR, HB, HP, HS⟩, HO, Hq, Hk, Hv, Hr⟩ HK
    imodintro
    imodintro
    iapply (sums_run0 m c t qM hq kM hk vM hv oM ho b ht Kt) $$ [HS Hq Hk Hv]
    · isplitl [HS]; · iexact HS
      isplitl [Hq]; · iexact Hq
      isplitl [Hk] <;> iassumption
    iintro ⟨HS, Hq, Hk, Hv⟩
    iapply HK
    isplitl [HR HB HP HS]
    · isplitl [HR]; · iexact HR
      isplitl [HB]; · iexact HB
      isplitl [HP] <;> iassumption
    isplitl [HO]; · iexists W; iexact HO
    isplitl [Hq]; · iexact Hq
    isplitl [Hk]; · iexact Hk
    isplitl [Hv]; · iexact Hv
    iexists Yr
    isplitr
    · ipureintro
      exact hok
    iexact Hr

/-- At a point of the second pass. -/
theorem point_run1 (b : Fin 4) (ht : t.val = 4 + b.val) (Yr : Vec F S4x16x64x256 .bf16) (hY : outOk m c (t.val - 1) Yr) (W : Waits sig Unit)
    (Kt : PUnit → sProp 𝕄) :
    iprop(inv m c t.val ∗ owes (c : Thread nD τ) 0 W
        ∗ owns (c : Thread nD τ) qM fullShare (qD m c) ∗ owns (c : Thread nD τ) kM fullShare (slot b (kvD m false c))
        ∗ owns (c : Thread nD τ) vM fullShare (slot b (kvD m true c)) ∗ owns (c : Thread nD τ) oM fullShare Yr)
      ⊢ iprop(((inv m c (t.val + 1) ∗ (∃ W', owes (c : Thread nD τ) 0 W')
          ∗ owns (c : Thread nD τ) qM fullShare (qD m c) ∗ owns (c : Thread nD τ) kM fullShare (slot b (kvD m false c))
          ∗ owns (c : Thread nD τ) vM fullShare (slot b (kvD m true c)) ∗ (∃ X, ⌜outOk m c t.val X⌝ ∗ owns (c : Thread nD τ) oM fullShare X)) -∗ Kt ⟨⟩)
        -∗ wp frame (wpE (defs₀ (F := F)) 𝒱₀ (c : Thread nD τ) none) Set.univ (bodyP (F := F) t qM hq kM hk vM hv oM ho) Kt) := by
  have hc1 : (grid0.coords t 1).val = b.val := (coord1 t).trans (by omega)
  rw [body_wp, start_none _ qM hq kM hk vM hv oM ho c (fun h => by have := (cond1_iff t).mp h; omega)]
  simp only [wp_ret]
  unfold inv
  have eB : barAt (F := F) c t.val = semVal (barCell c) 0 := if_neg (by omega)
  have eB' : barAt (F := F) c (t.val + 1) = semVal (barCell c) 0 := if_neg (by omega)
  rw [eB, eB', split_tr b (trAt m c t.val), split_tr b (trAt m c (t.val + 1)), others_at m c b t.val ht,
    trAt_pend m c t.val (by omega) (false, b) (by dsimp only; omega), trAt_pend m c t.val (by omega) (true, b) (by dsimp only; omega),
    trAt_fin m c (t.val + 1) (false, b) (by dsimp only; omega), trAt_fin m c (t.val + 1) (true, b) (by dsimp only; omega)]
  iintro ⟨⟨⟨%κ, #HR⟩, HB, ⟨Pf, Pt, Po⟩, HS⟩, HO, Hq, Hk, Hv, Hr⟩ HK
  imodintro
  iapply (wait_run (kvD m) κ c (grid0.coords t) ((cond2_iff t).mpr (by omega)) b hc1 qM hq kM hk vM hv oM ho W) $$ [Pf Pt HO]
  · isplitr; · iexact HR
    isplitl [Pf]; · iexact Pf
    isplitl [Pt] <;> iassumption
  iintro ⟨%W', Pf, Pt, HO⟩
  unfold fin
  icases Pf with ⟨Sf, Df, Zf, Zf'⟩
  icases Pt with ⟨St, Dt, Zt, Zt'⟩
  unfold sumsAt
  icases HS with ⟨%Xo, %Xl, %hX, Ho, Hl⟩
  iapply (math_run1 (kvD m) c (grid0.coords t) (fun h => by have := (cond3_iff t).mp h; omega) ((cond4_iff t).mpr (by omega)) b hc1
    qM hq kM hk vM hv oM ho Kt (qD m c) Xo Xl Yr) $$ [Df Dt Ho Hl Hq Hr]
  · isplitl [Hq]; · iexact Hq
    isplitl [Df]; · iexact Df
    isplitl [Dt]; · iexact Dt
    isplitl [Ho]; · iexact Ho
    isplitl [Hl] <;> iassumption
  iintro ⟨Hq, Df, Dt, Ho, Hl, ⟨%Xr, %hr, Hr⟩⟩
  iapply HK
  isplitl [HB Sf Df Zf Zf' St Dt Zt Zt' Po Ho Hl]
  · isplitr
    · iexists κ
      iexact HR
    isplitl [HB]; · iexact HB
    isplitr [Ho Hl]
    · isplitl [Sf Df Zf Zf']
      · isplitl [Sf]; · iexact Sf
        isplitl [Df]; · iexact Df
        isplitl [Zf] <;> iassumption
      isplitr [Po]
      · isplitl [St]; · iexact St
        isplitl [Dt]; · iexact Dt
        isplitl [Zt] <;> iassumption
      iexact Po
    iexists Xo
    iexists Xl
    isplitr
    · ipureintro
      exact fun b' _ => hX b' (by omega)
    isplitl [Ho] <;> iassumption
  isplitl [HO]; · iexists W'; iexact HO
  isplitl [Hq]; · iexact Hq
  isplitl [Hk]; · iexact Hk
  isplitl [Hv]; · iexact Hv
  iexists Xr
  isplitr
  · ipureintro
    intro b' hb'
    by_cases e : b' = b
    · subst e
      rw [hr.1, (hX b' (by omega)).1, (hX b' (by omega)).2]
      rfl
    · exact (hr.2 b' e).trans (hY b' (by
        have := fun h => e (Fin.ext h)
        omega))
  iexact Hr

end Points

/-! ## The obligation -/

/-- What the core owes, as a point's record of it and back. -/
theorem owes_in {cfg : Pipeline.Cfg sig Λ₀} {c : Dev nD} (dat : Pipeline.RDat τ (Elt F) Unit ℕ UU ℕ cfg c) (t : Fin (cfg.N + 1))
    (O : CellTallies nD τ sig Unit) (h0 : dat.owed t = O) (W : Waits sig Unit) (hr : dat.recorded t = Set.univ) :
    (owes (c : Thread nD τ) O W : sProp 𝕄) ⊢ dat.owesAt () t := by
  unfold Pipeline.RDat.owesAt Pipeline.owesWithin Pipeline.RDat.bound
  rw [h0, hr]
  iintro HO
  iexists W
  isplitr
  · ipureintro
    exact fun _ _ => Or.inl trivial
  iexact HO
theorem owes_out {cfg : Pipeline.Cfg sig Λ₀} {c : Dev nD} (dat : Pipeline.RDat τ (Elt F) Unit ℕ UU ℕ cfg c) (t : Fin (cfg.N + 1))
    (O : CellTallies nD τ sig Unit) (h0 : dat.owed t = O) : (dat.owesAt () t : sProp 𝕄) ⊢ iprop(∃ W, owes (c : Thread nD τ) O W) := by
  unfold Pipeline.RDat.owesAt Pipeline.owesWithin
  rw [h0]
  iintro ⟨%W, -, HO⟩
  iexists W
  iexact HO

/-- Either kind of point. -/
theorem point_run (c : Dev nD) (t : Fin cfg0.N) (b : Fin 4) (hb : t.val % 4 = b.val)
    (qM : Memref sig .tc .vmem S4x16x64x256 .bf16) (hq : qM.IsWhole)
    (kM : Memref sig .tc .vmem S1x16x64x256 .bf16) (hk : kM.IsWhole) (vM : Memref sig .tc .vmem S1x16x64x256 .bf16) (hv : vM.IsWhole)
    (oM : Memref sig .tc .vmem S4x16x64x256 .bf16) (ho : oM.IsWhole)
    (Yr : Vec F S4x16x64x256 .bf16) (hY : 4 ≤ t.val → outOk m c (t.val - 1) Yr) (W : Waits sig Unit) (Kt : PUnit → sProp 𝕄) :
    iprop(inv m c t.val ∗ owes (c : Thread nD τ) (if t.val = 0 then O₀ c else 0) W
        ∗ owns (c : Thread nD τ) qM fullShare (qD m c) ∗ owns (c : Thread nD τ) kM fullShare (slot b (kvD m false c))
        ∗ owns (c : Thread nD τ) vM fullShare (slot b (kvD m true c)) ∗ owns (c : Thread nD τ) oM fullShare Yr)
      ⊢ iprop(((inv m c (t.val + 1) ∗ (∃ W', owes (c : Thread nD τ) 0 W')
          ∗ owns (c : Thread nD τ) qM fullShare (qD m c) ∗ owns (c : Thread nD τ) kM fullShare (slot b (kvD m false c))
          ∗ owns (c : Thread nD τ) vM fullShare (slot b (kvD m true c)) ∗ (∃ X, ⌜outOk m c t.val X⌝ ∗ owns (c : Thread nD τ) oM fullShare X)) -∗ Kt ⟨⟩)
        -∗ wp frame (wpE (defs₀ (F := F)) 𝒱₀ (c : Thread nD τ) none) Set.univ (bodyP (F := F) t qM hq kM hk vM hv oM ho) Kt) := by
  have hN : t.val < 8 := lt_of_lt_of_eq t.isLt N_0
  by_cases h : t.val < 4
  · exact point_run0 m c t qM hq kM hk vM hv oM ho b (by omega) Yr W Kt
  · rw [if_neg (show t.val ≠ 0 by omega)]
    exact point_run1 m c t qM hq kM hk vM hv oM ho b (by omega) Yr (hY (by omega)) W Kt

theorem body_ok (c : Dev nD) : (dats m 0 c).BodyObligation (defs₀ (F := F)) 𝒱₀ () Set.univ := by
  intro t Y hY
  obtain ⟨b, hb⟩ : ∃ b : Fin 4, t.val % 4 = b.val := ⟨⟨t.val % 4, by omega⟩, rfl⟩
  have e0 := finds0 m c t (Y 0) (hY 0)
  have e1 := finds1 m c t b hb (Y 1) (hY 1)
  have e2 := finds2 m c t b hb (Y 2) (hY 2)
  have e3 : 4 ≤ t.val → outOk m c (t.val - 1) (Y 3) := fun h => finds3 m c t (t.val - 1) (by omega) (Y 3) (hY 3)
  rw [bigSep_W0, bigSep_W0, e0, e1, e2, show (dats m 0 c).Φ t.castSucc = inv m c t.val from rfl,
    show (dats m 0 c).Φ t.succ = inv m c (t.val + 1) from rfl]
  iintro ⟨HI, HO, Hq, Hk, Hv, Hr⟩
  ihave HO' := (owes_out (dats m 0 c) t.castSucc (if t.val = 0 then O₀ c else 0) rfl) $$ HO
  icases HO' with ⟨%W, HO⟩
  iapply (point_run m c t b hb (win0_0.stage (cfg0.slots t 0)) (hstage0_0 ((cfg0.slots t 0).cast nbuf0_0)) (win0_1.stage (cfg0.slots t 1))
    (hstage0_1 ((cfg0.slots t 1).cast nbuf0_1)) (win0_2.stage (cfg0.slots t 2)) (hstage0_2 ((cfg0.slots t 2).cast nbuf0_2))
    (win0_3.stage (cfg0.slots t 3)) (hstage0_3 ((cfg0.slots t 3).cast nbuf0_3)) (Y 3) e3 W _) $$ [HI HO Hq Hk Hv Hr]
  · isplitl [HI]; · iexact HI
    isplitl [HO]; · iexact HO
    isplitl [Hq]; · iexact Hq
    isplitl [Hk]; · iexact Hk
    isplitl [Hv] <;> iassumption
  iintro ⟨HI, ⟨%W', HO⟩, Hq, Hk, Hv, Hr⟩
  isplitl [HI]; · iexact HI
  isplitl [HO]; · iapply (owes_in (dats m 0 c) t.succ 0 (show (if t.succ.val = 0 then O₀ c else 0) = 0 from if_neg (Nat.succ_ne_zero t.val)) W' rfl); iexact HO
  isplitl [Hq]
  · iexists (qD m c)
    isplitr
    · ipureintro; exact (rfl : qD m c = qD m c)
    iexact Hq
  isplitl [Hk]
  · iexists (slot b (kvD m false c))
    isplitr
    · ipureintro; exact (rfl : slot b (kvD m false c) = slot b (kvD m false c))
    iexact Hk
  isplitl [Hv]
  · iexists (slot b (kvD m true c))
    isplitr
    · ipureintro; exact (rfl : slot b (kvD m true c) = slot b (kvD m true c))
    iexact Hv
  iexact Hr

end Cert.Att

end
-- ==== Proof.Fund.lean ====
/-
  What the launch deals: the credits, the rounds' ghost state, the duties.
-/
module

public import proofs.«01_k».proof.Proof.Sched

@[expose] public section

set_option maxRecDepth 16384

noncomputable section

namespace Cert.Att

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (D : Bool → Dev nD → Vec F S4x16x64x256 .bf16)

/-! ## The launch's credits -/

theorem owedL_rcv (d c : Dev nD) (k : Tr) (l : List Tr) : owedL d l (rcvCell c k) () = if d = pn c then N * l.count k else 0 := by
  induction l with
  | nil => simp [owedL]
  | cons x l ih =>
    have e : owedL d (x :: l) (rcvCell c k) () = owedL d l (rcvCell c k) () + tallyAt (rcvCell (pn d) x) () N (rcvCell c k) () := rfl
    rw [e, ih, tallyAt_apply]
    by_cases hd : d = pn c
    · subst hd
      rw [if_pos rfl, if_pos rfl, pn_pn]
      by_cases hx : x = k
      · subst hx
        rw [if_pos ⟨rfl, rfl⟩, List.count_cons_self, Nat.mul_add, Nat.mul_one]
      · rw [if_neg (fun h => hx (congrArg (fun p : Bool × Tr => p.2) (osem_inj (congrArg Prod.snd h.1 : osem (true, k) = osem (true, x)))).symm),
          List.count_cons_of_ne hx, Nat.add_zero]
    · rw [if_neg hd, if_neg hd, if_neg fun h => hd ?_]
      have h1 : c = pn d := congrArg (fun g : GSem nD τ sig => g.1.1) h.1
      rw [h1, pn_pn]

theorem count_trs : ∀ k : Tr, trs.count k = 1 := by decide

theorem rcv_ne_bar (c d : Dev nD) (k : Tr) : rcvCell c k ≠ barCell d := fun h => by
  have h2 : osem (true, k) = .reg barS := congrArg Prod.snd h
  cases h2

theorem O₀_rcv (d c : Dev nD) (k : Tr) : O₀ d (rcvCell c k) () = if d = pn c then N else 0 := by
  have e : O₀ d (rcvCell c k) () = owedL d trs (rcvCell c k) () + tallyAt (barCell (pn d)) () 1 (rcvCell c k) () := rfl
  rw [e, owedL_rcv, count_trs, Nat.mul_one, tallyAt_apply,
    if_neg (show ¬ (rcvCell c k = barCell (pn d) ∧ () = ()) from fun h => rcv_ne_bar c (pn d) k h.1), Nat.add_zero]

theorem O₀_bar (d c : Dev nD) : O₀ d (barCell c) () = if d = pn c then 1 else 0 := by
  have e : O₀ d (barCell c) () = owedL d trs (barCell c) () + tallyAt (barCell (pn d)) () 1 (barCell c) () := rfl
  have h0 : owedL d trs (barCell c) () = 0 := by
    by_contra hne
    obtain ⟨k, hk⟩ := owedL_pos d trs (barCell c) () (Nat.pos_of_ne_zero hne)
    exact rcv_ne_bar _ _ k hk.symm
  rw [e, h0, tallyAt_apply, Nat.zero_add]
  by_cases hd : d = pn c
  · subst hd
    rw [pn_pn, if_pos ⟨rfl, rfl⟩, if_pos rfl]
  · rw [if_neg hd, if_neg fun h => hd ?_]
    have h1 : c = pn d := congrArg (fun g : GSem nD τ sig => g.1.1) h.1
    rw [h1, pn_pn]

theorem launch_bar (c : Dev nD) :
    tallyOn (barCell c) (launchCredit (Pipeline.owing O₀) 0 (barCell c)) = (tallyAt (barCell c) () 1 : CellTallies nD τ sig Unit) := by
  unfold tallyAt
  refine congrArg _ (Finsupp.ext fun u => ?_)
  cases u
  rw [Pipeline.launchCredit_owing, Finsupp.single_eq_same, Finset.sum_congr rfl fun d _ => O₀_bar d c, Finset.sum_ite_eq' Finset.univ (pn c) fun _ => 1,
    if_pos (Finset.mem_univ _)]
theorem launch_rcv (c : Dev nD) (k : Tr) :
    tallyOn (rcvCell c k) (launchCredit (Pipeline.owing O₀) 0 (rcvCell c k)) = (tallyAt (rcvCell c k) () N : CellTallies nD τ sig Unit) := by
  unfold tallyAt
  refine congrArg _ (Finsupp.ext fun u => ?_)
  cases u
  rw [Pipeline.launchCredit_owing, Finsupp.single_eq_same, Finset.sum_congr rfl fun d _ => O₀_rcv d c k, Finset.sum_ite_eq' Finset.univ (pn c) fun _ => N,
    if_pos (Finset.mem_univ _)]

/-- A device's receive cells' places. -/
def rcvEmb : Tr ↪ SemLoc sig := ⟨fun k => osem (true, k), fun _ _ h => congrArg Prod.snd (osem_inj h)⟩

omit [FloatOps F] in
/-- Device `c`'s launch credit holds what its handshake and its receive waits need. -/
theorem creds (c : Dev nD) :
    (Pipeline.launchCred O₀ c : sProp 𝕄) ⊢ iprop(cred (tallyAt (barCell c) () 1) ∗ bigSep Finset.univ fun k : Tr => cred (tallyAt (rcvCell c k) () N)) := by
  unfold Pipeline.launchCred
  rw [bigSep_univ_at _ (SemLoc.reg barS), launch_bar]
  refine sep_mono_right ?_
  have hs : Finset.univ.map rcvEmb ⊆ Finset.univ.erase (SemLoc.reg barS : SemLoc sig) := fun s hs => by
    obtain ⟨k, -, rfl⟩ := Finset.mem_map.mp hs
    exact Finset.mem_erase.mpr ⟨fun h => (by cases h), Finset.mem_univ _⟩
  refine (bigSep_subset hs).trans ?_
  rw [bigSep_map]
  exact Entails.of_eq (bigSep_congr fun k _ => congrArg cred (launch_rcv c k))

/-! ## The launch's ghost state -/

/-- Every cell's one duty. -/
def tokOf : GSem nD τ sig ↪ GSem nD τ sig × ℕ × Unit := ⟨fun g => (g, 0, ()), fun _ _ h => congrArg Prod.fst h⟩
def toks : Finset (GSem nD τ sig × ℕ × Unit) := (bars ∪ dcells).map tokOf

omit [FloatOps F] in
theorem over_bars (Φ : GSem nD τ sig → sProp 𝕄) : bigSep bars Φ = bigSep Finset.univ fun c : Dev nD => Φ (barCell c) := by
  unfold bars
  rw [bigSep_map]
  rfl
omit [FloatOps F] in
theorem over_dcells (Φ : GSem nD τ sig → sProp 𝕄) :
    bigSep dcells Φ = bigSep Finset.univ fun c : Dev nD => bigSep Finset.univ fun p : Bool × Tr => Φ (dCell c p) := by
  unfold dcells
  rw [bigSep_map, bigSep_univ_prod]
  rfl
omit [FloatOps F] in
theorem over_pair (Φ : Bool × Tr → sProp 𝕄) :
    bigSep Finset.univ Φ = iprop((bigSep Finset.univ fun k => Φ (false, k)) ∗ bigSep Finset.univ fun k => Φ (true, k)) := by
  rw [bigSep_univ_prod, bigSep_univ_eq_bigSepL [false, true] (by decide) (by decide)]
  rfl

omit [FloatOps F] in
/-- The duties, dealt to the devices that pay them. -/
theorem toks_dealt : bigSep toks (fun x => (dutyTok ER x.1 x.2.1 x.2.2 : sProp 𝕄))
    = bigSep Finset.univ fun c : Dev nD => iprop(dutyTok ER (barCell (pn c)) 0 ()
        ∗ (bigSep Finset.univ fun k : Tr => dutyTok ER (sndCell c k) 0 ()) ∗ bigSep Finset.univ fun k : Tr => dutyTok ER (rcvCell (pn c) k) 0 ()) := by
  have e : bigSep toks (fun x => (dutyTok ER x.1 x.2.1 x.2.2 : sProp 𝕄)) = bigSep (bars ∪ dcells) fun g => dutyTok ER g 0 () := bigSep_map tokOf
  rw [e, bigSep_union bars_dcells, over_bars, over_dcells, bigSep_sep', bigSep_sep',
    bigSep_univ_equiv pairing (fun c : Dev nD => (dutyTok ER (barCell c) 0 () : sProp 𝕄)),
    bigSep_congr (s := Finset.univ) (fun (c : Dev nD) _ => over_pair fun p => (dutyTok ER (dCell c p) 0 () : sProp 𝕄)),
    bigSep_sep', bigSep_univ_equiv pairing (fun c : Dev nD => (bigSep Finset.univ fun k : Tr => dutyTok ER (dCell c (true, k)) 0 () : sProp 𝕄))]
  rfl

/-- What stays with device `c` of the launch: its barrier position and the rights to open its transfer cells, the duties
    it pays, its credits. -/
def deal (c : Dev nD) : sProp 𝕄 :=
  iprop(atPos ER (barCell c) 0 ∅ 0 ∗ (bigSep Finset.univ fun p : Bool × Tr => openTok ER (dCell c p))
    ∗ (dutyTok ER (barCell (pn c)) 0 () ∗ (bigSep Finset.univ fun k : Tr => dutyTok ER (sndCell c k) 0 ())
      ∗ bigSep Finset.univ fun k : Tr => dutyTok ER (rcvCell (pn c) k) 0 ())
    ∗ (cred (tallyAt (barCell c) () 1) ∗ bigSep Finset.univ fun k : Tr => cred (tallyAt (rcvCell c k) () N)))

omit [FloatOps F] in
/-- The unscoped semaphores are the barrier's. -/
theorem unscopedSems0_eq (c : Dev nD) : (unscopedSems0 c : sProp 𝕄) = semVal (barCell c) 0 := by
  unfold unscopedSems0
  rw [bigSep_eq_bigSepL_of_eq [SemLoc.reg barS] (by decide) (by decide)]
  rfl

end Cert.Att

end
-- ==== Proof.Chunks.lean ====
/-
  The buffers the transfers read and write, whole and in chunks.
-/
module

public import proofs.«01_k».proof.Proof.Math
public import Idealize.ShloMosaic.Lib.Ring

@[expose] public section

set_option maxRecDepth 16384

noncomputable section

namespace Cert.Att

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (D : Bool → Dev nD → Vec F S4x16x64x256 .bf16)

/-! ## A whole buffer and its four chunks -/

theorem src_set0 (b : Fin 4) : (srcM (false, b)).view.set = (chR b).set :=
  (src_set_access (false, b)).trans (View.set_slice_whole _ _)
theorem src_set1 (b : Fin 4) : (srcM (true, b)).view.set = (chR b).set :=
  (src_set_access (true, b)).trans (View.set_slice_whole _ _)
theorem dst_set0 (b : Fin 4) : (dstM (false, b)).view.set = (chR b).set :=
  (dst_set_access (false, b)).trans (View.set_slice_whole _ _)
theorem dst_set1 (b : Fin 4) : (dstM (true, b)).view.set = (chR b).set :=
  (dst_set_access (true, b)).trans (View.set_slice_whole _ _)

/-- Every index lies in the chunk its first coordinate names. -/
theorem ch_cover : (Finset.univ : Finset (Fin 4)).biUnion (fun b => (chR b).set) = Finset.univ := by
  refine Finset.eq_univ_of_forall fun y => Finset.mem_biUnion.mpr ⟨y 0, Finset.mem_univ _, Rect.mem_set_unit.mpr fun a => ?_⟩
  have h := (y a).isLt
  fin_cases a
  · exact ⟨le_refl _, Nat.lt_succ_self _⟩
  all_goals exact ⟨Nat.zero_le _, by simpa using h⟩

omit [FloatOps F] in
/-- A buffer held whole is held chunk by chunk. -/
theorem chunks (ℓ : Loc nD τ sig) (I : Fin 4 → Finset (Idx ℓ)) (q : PosShare TreeShare) (f : Buf (Elt F) ℓ)
    (hd : ∀ b b', b ≠ b' → Disjoint (I b) (I b')) (hc : Finset.univ.biUnion I = Finset.univ) :
    (ℓ ↦{q} f : sProp 𝕄) = bigSep Finset.univ fun b => ℓ ↦[I b]{q} f :=
  Ring.pointsTo_blocks I hd hc f

omit [FloatOps F] in
theorem src_chunks0_at (c : Dev nD) (b : Fin 4) :
    (sPts D c (false, b) : sProp 𝕄) = ((c : Thread nD τ).loc main_v6 ↦[(chR b).set]{fullShare.right} hC D false c) := by
  show ((c : Thread nD τ).loc main_v6 ↦[(srcM (false, b)).view.set]{fullShare.right} hC D false c : sProp 𝕄) = _
  rw [src_set0]
omit [FloatOps F] in
theorem src_chunks0 (c : Dev nD) :
    ((c : Thread nD τ).loc main_v6 ↦{fullShare.right} hC D false c : sProp 𝕄) = bigSep Finset.univ fun b : Fin 4 => sPts D c (false, b) :=
  (chunks ((c : Thread nD τ).loc main_v6) (fun b => (chR b).set) _ _ (fun b b' h => ch_disjoint h) ch_cover).trans
    (bigSep_congr fun b _ => (src_chunks0_at D c b).symm)
omit [FloatOps F] in
theorem src_chunks1_at (c : Dev nD) (b : Fin 4) :
    (sPts D c (true, b) : sProp 𝕄) = ((c : Thread nD τ).loc main_v8 ↦[(chR b).set]{fullShare.right} hC D true c) := by
  show ((c : Thread nD τ).loc main_v8 ↦[(srcM (true, b)).view.set]{fullShare.right} hC D true c : sProp 𝕄) = _
  rw [src_set1]
omit [FloatOps F] in
theorem src_chunks1 (c : Dev nD) :
    ((c : Thread nD τ).loc main_v8 ↦{fullShare.right} hC D true c : sProp 𝕄) = bigSep Finset.univ fun b : Fin 4 => sPts D c (true, b) :=
  (chunks ((c : Thread nD τ).loc main_v8) (fun b => (chR b).set) _ _ (fun b b' h => ch_disjoint h) ch_cover).trans
    (bigSep_congr fun b _ => (src_chunks1_at D c b).symm)
omit [FloatOps F] in
theorem dst_chunks0_at (c : Dev nD) (f : Buf (Elt F) ((c : Thread nD τ).loc cc0_scratch0)) (b : Fin 4) :
    (dPts c (false, b) f : sProp 𝕄) = ((c : Thread nD τ).loc cc0_scratch0 ↦[(chR b).set]{fullShare} f) := by
  show ((c : Thread nD τ).loc cc0_scratch0 ↦[(dstM (false, b)).view.set]{fullShare} f : sProp 𝕄) = _
  rw [dst_set0]
omit [FloatOps F] in
theorem dst_chunks0 (c : Dev nD) (f : Buf (Elt F) ((c : Thread nD τ).loc cc0_scratch0)) :
    ((c : Thread nD τ).loc cc0_scratch0 ↦{fullShare} f : sProp 𝕄) = bigSep Finset.univ fun b : Fin 4 => dPts c (false, b) f :=
  (chunks ((c : Thread nD τ).loc cc0_scratch0) (fun b => (chR b).set) _ _ (fun b b' h => ch_disjoint h) ch_cover).trans
    (bigSep_congr fun b _ => (dst_chunks0_at  c f b).symm)
omit [FloatOps F] in
theorem dst_chunks1_at (c : Dev nD) (f : Buf (Elt F) ((c : Thread nD τ).loc cc0_scratch1)) (b : Fin 4) :
    (dPts c (true, b) f : sProp 𝕄) = ((c : Thread nD τ).loc cc0_scratch1 ↦[(chR b).set]{fullShare} f) := by
  show ((c : Thread nD τ).loc cc0_scratch1 ↦[(dstM (true, b)).view.set]{fullShare} f : sProp 𝕄) = _
  rw [dst_set1]
omit [FloatOps F] in
theorem dst_chunks1 (c : Dev nD) (f : Buf (Elt F) ((c : Thread nD τ).loc cc0_scratch1)) :
    ((c : Thread nD τ).loc cc0_scratch1 ↦{fullShare} f : sProp 𝕄) = bigSep Finset.univ fun b : Fin 4 => dPts c (true, b) f :=
  (chunks ((c : Thread nD τ).loc cc0_scratch1) (fun b => (chR b).set) _ _ (fun b b' h => ch_disjoint h) ch_cover).trans
    (bigSep_congr fun b _ => (dst_chunks1_at  c f b).symm)

omit [FloatOps F] in
theorem over_tr (Φ : Tr → sProp 𝕄) :
    bigSep Finset.univ Φ = iprop((bigSep Finset.univ fun b => Φ (false, b)) ∗ bigSep Finset.univ fun b => Φ (true, b)) := by
  rw [bigSep_univ_prod, bigSep_univ_eq_bigSepL [false, true] (by decide) (by decide)]
  rfl

end Cert.Att

end
-- ==== Proof.Arrays.lean ====
/-
  The windows' arrays and the other buffers of @main around the region.
-/
module

public import proofs.«01_k».proof.Proof.Data
public import proofs.«01_k».proof.Proof.Chunks
public import Idealize.ShloMosaic.Lib.Pipeline.ArrRel

@[expose] public section

set_option maxRecDepth 16384

noncomputable section

namespace Cert.Att

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The contents around the region -/

/-- What the output holds at the end: every slot the second pass's. -/
def outD (c : Dev nD) : Vec F S4x16x64x256 .bf16 := fun j => rAt m c (j 0) (fun a => match a with | 0 => ⟨0, by decide⟩ | 1 => j 1 | 2 => j 2 | 3 => j 3)

theorem slots_out (c : Dev nD) (X : Vec F S4x16x64x256 .bf16) (h : ∀ b, slot b X = rAt m c b) : X = outD m c := by
  funext j
  show X j = rAt m c (j 0) _
  rw [← h (j 0)]
  refine congrArg X (funext fun a => Fin.ext ?_)
  rw [Rect.emb_apply]
  fin_cases a <;> simp

/-- The buffers after the region: as before it, the output written. -/
def V1 (c : Dev nD) : Valuation τ sig (Elt F) := Function.update (V0 m c) (Proc.devRef .tc main_v9) (outD m c)

/-- The windows' arrays. -/
def arrs : Finset (DevRef τ sig) := {Proc.devRef .tc main_v4, Proc.devRef .tc main_v6, Proc.devRef .tc main_v8, Proc.devRef .tc main_v9}

/-- A buffer of device `c` whole at `f`. -/
abbrev pt (c : Dev nD) (b : Ref sig .tc) (f : Buf (Elt F) ((c : Thread nD τ).loc b)) : sProp 𝕄 := (c : Thread nD τ).loc b ↦{fullShare} f

omit [FloatOps F] in
theorem arrs_eq (c : Dev nD) (W : Valuation τ sig (Elt F)) :
    (StableHlo.held (c : Thread nD τ) arrs W : sProp 𝕄)
      = iprop(pt c main_v4 (W main_v4) ∗ pt c main_v6 (W main_v6) ∗ pt c main_v8 (W main_v8) ∗ pt c main_v9 (W main_v9)) := by
  unfold StableHlo.held arrs
  rw [bigSep_insert (by decide), bigSep_insert (by decide), bigSep_insert (by decide), bigSep_singleton]
  rfl

theorem arrs_sub : arrs ⊆ Pipeline.ucRefs τ sig := by decide

theorem held_arrs (c : Dev nD) (W : Valuation τ sig (Elt F)) :
    (StableHlo.held (c : Thread nD τ) (Pipeline.ucRefs τ sig) W : sProp 𝕄)
      = iprop((pt c main_v4 (W main_v4) ∗ pt c main_v6 (W main_v6) ∗ pt c main_v8 (W main_v8) ∗ pt c main_v9 (W main_v9))
        ∗ StableHlo.held (c : Thread nD τ) (Pipeline.ucRefs τ sig \ arrs) W) := by
  rw [StableHlo.held_sub_split (c : Thread nD τ) arrs_sub W, arrs_eq]

theorem rest_V1 (c : Dev nD) : (StableHlo.held (c : Thread nD τ) (Pipeline.ucRefs τ sig \ arrs) (V1 m c) : sProp 𝕄)
    = StableHlo.held (c : Thread nD τ) (Pipeline.ucRefs τ sig \ arrs) (V0 m c) :=
  StableHlo.held_congr (c : Thread nD τ) fun b hb => Function.update_of_ne (fun e => by
    subst e
    exact (Finset.mem_sdiff.mp hb).2 (by decide)) _ _

theorem held_V1 (c : Dev nD) :
    (StableHlo.held (c : Thread nD τ) (Pipeline.ucRefs τ sig) (V1 m c) : sProp 𝕄)
      = iprop((pt c main_v4 (V0 m c main_v4) ∗ pt c main_v6 (V0 m c main_v6) ∗ pt c main_v8 (V0 m c main_v8) ∗ pt c main_v9 (outD m c))
        ∗ StableHlo.held (c : Thread nD τ) (Pipeline.ucRefs τ sig \ arrs) (V0 m c)) := by
  rw [held_arrs, rest_V1]
  have h4 : V1 m c main_v4 = V0 m c main_v4 := Function.update_of_ne (by decide) _ _
  have h6 : V1 m c main_v6 = V0 m c main_v6 := Function.update_of_ne (by decide) _ _
  have h8 : V1 m c main_v8 = V0 m c main_v8 := Function.update_of_ne (by decide) _ _
  have h9 : V1 m c main_v9 = outD m c := Function.update_self _ _ _
  rw [h4, h6, h8, h9]

/-! ## The windows' arrays -/

/-- The four arrays as the pipeline holds them. -/
theorem arrays_eq (c : Dev nD) (G : (w : Fin 4) → Buf (Elt F) ((cfg0.win w).arr.view.loc (c : Thread nD τ))) :
    ((dats m 0 c).arrays G : sProp 𝕄)
      = iprop(pt c main_v4 (G 0) ∗ ((c : Thread nD τ).loc main_v6 ↦{fullShare.left} G 1) ∗ ((c : Thread nD τ).loc main_v8 ↦{fullShare.left} G 2)
        ∗ pt c main_v9 (G 3)) := by
  unfold Pipeline.RDat.arrays
  rw [bigSep_W0]
  have e0 : ((cfgs 0).win 0).arr.view.set = Finset.univ := View.set_whole main_v4
  have e1 : ((cfgs 0).win 1).arr.view.set = Finset.univ := View.set_whole main_v6
  have e2 : ((cfgs 0).win 2).arr.view.set = Finset.univ := View.set_whole main_v8
  have e3 : ((cfgs 0).win 3).arr.view.set = Finset.univ := View.set_whole main_v9
  rw [e0, e1, e2, e3]
  rfl

/-- The last point flushes the whole output. -/
theorem whole_out : (cfg0.win 3).WholeAt t0_7 := by decide +kernel

/-- The output array at the end. -/
theorem out_end (c : Dev nD) (G : Buf (Elt F) ((cfg0.win 3).arr.view.loc (c : Thread nD τ))) (hG : (dats m 0 c).ArrAt 3 cfg0.N G) : G = outD m c := by
  obtain ⟨X, ⟨Y, -, hX⟩, hj⟩ := Pipeline.RDat.ArrAt.emb_eq_of_wholeAt (rd := dats m 0 c) (w := 3) hG (t₀ := t0_7) whole_out
  have hX' : outOk m c 7 X := hX
  refine Eq.trans (funext fun j => ?_) (slots_out m c X fun b => hX' b (by omega))
  exact hj j

theorem arraysAt_end (c : Dev nD) : ((dats m 0 c).arraysAt cfg0.N : sProp 𝕄)
    ⊢ iprop(pt c main_v4 (V0 m c main_v4) ∗ ((c : Thread nD τ).loc main_v6 ↦{fullShare.left} V0 m c main_v6)
      ∗ ((c : Thread nD τ).loc main_v8 ↦{fullShare.left} V0 m c main_v8) ∗ pt c main_v9 (outD m c)) := by
  have e0 : ((cfgs 0).win 0).arr.view.set = Finset.univ := View.set_whole main_v4
  have e1 : ((cfgs 0).win 1).arr.view.set = Finset.univ := View.set_whole main_v6
  have e2 : ((cfgs 0).win 2).arr.view.set = Finset.univ := View.set_whole main_v8
  have e3 : ((cfgs 0).win 3).arr.view.set = Finset.univ := View.set_whole main_v9
  unfold Pipeline.RDat.arraysAt
  rw [bigSep_W0, e0, e1, e2, e3]
  iintro ⟨⟨%G0, %h0, H0⟩, ⟨%G1, %h1, H1⟩, ⟨%G2, %h2, H2⟩, ⟨%G3, %h3, H3⟩⟩
  have g0 : G0 = V0 m c main_v4 := (congrFun (Pipeline.RDat.ArrAt_in (rd := dats m 0 c) 0 rfl _) G0).mp h0
  have g1 : G1 = V0 m c main_v6 := (congrFun (Pipeline.RDat.ArrAt_in (rd := dats m 0 c) 1 rfl _) G1).mp h1
  have g2 : G2 = V0 m c main_v8 := (congrFun (Pipeline.RDat.ArrAt_in (rd := dats m 0 c) 2 rfl _) G2).mp h2
  have g3 : G3 = outD m c := out_end m c G3 h3
  subst g0 g1 g2 g3
  isplitl [H0]; · iexact H0
  isplitl [H1]; · iexact H1
  isplitl [H2]; · iexact H2
  iexact H3

end Cert.Att

end
-- ==== Proof.Region.lean ====
/-
  The kernel's region as a step of @main: how its state is put together from what @main holds, and taken apart.
-/
module

public import proofs.«01_k».proof.Proof.Body
public import proofs.«01_k».proof.Proof.Fund
public import proofs.«01_k».proof.Proof.Arrays
public import Idealize.ShloMosaic.Lib.Pipeline.RegionArrays

@[expose] public section

set_option maxRecDepth 16384

noncomputable section

namespace Cert.Att

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Families gathered and dealt -/

omit [FloatOps F] in
/-- A persistent assertion at hand for each of a family. -/
theorem each_with {I : Type} [Fintype I] [DecidableEq I] {R : sProp 𝕄} [BI.Persistent R] {Φ Ψ : I → sProp 𝕄} (h : ∀ i, iprop(R ∗ Φ i) ⊢ Ψ i) :
    iprop(R ∗ bigSep Finset.univ Φ) ⊢ bigSep Finset.univ Ψ := by
  refine (sep_mono_left (BI.bigSep_of_persistent (Finset.univ : Finset I) R)).trans ?_
  rw [← bigSep_sep']
  exact bigSep_mono fun i _ => h i

omit [FloatOps F] in
/-- A device's own cells opened, their counters at zero. -/
theorem open_cells (D : Bool → Dev nD → Vec F S4x16x64x256 .bf16) (κ : GSem nD τ sig → ℕ) (c : Dev nD) :
    iprop(recs D κ ∗ (bigSep Finset.univ fun p : Bool × Tr => openTok ER (dCell c p)) ∗ Pipeline.ownSems0 osem c)
      ⊢ |={Set.univ}=> iprop(((bigSep Finset.univ fun k : Tr => atPos ER (sndCell c k) 0 ∅ 0) ∗ bigSep Finset.univ fun k : Tr => reached ER (sndCell c k) 0)
        ∗ (bigSep Finset.univ fun k : Tr => atPos ER (rcvCell c k) 0 ∅ 0) ∗ bigSep Finset.univ fun k : Tr => (reached ER (rcvCell c k) 0 : sProp 𝕄)) := by
  have e : (bigSep Finset.univ fun p : Bool × Tr => (iprop(atPos ER (dCell c p) 0 ∅ 0 ∗ reached ER (dCell c p) 0) : sProp 𝕄))
      = iprop(((bigSep Finset.univ fun k : Tr => atPos ER (sndCell c k) 0 ∅ 0) ∗ bigSep Finset.univ fun k : Tr => reached ER (sndCell c k) 0)
        ∗ (bigSep Finset.univ fun k : Tr => atPos ER (rcvCell c k) 0 ∅ 0) ∗ bigSep Finset.univ fun k : Tr => (reached ER (rcvCell c k) 0 : sProp 𝕄)) := by
    rw [over_pair, bigSep_sep', bigSep_sep']
    rfl
  rw [← e]
  refine BIBase.Entails.trans ?_ (Rounds.cells_open ER (attRd D) Finset.univ (fun p => dCell c p) (fun p => κ (dCell c p)) fun _ _ => trivial)
  iintro ⟨HR, Ho, Hs⟩
  isplitl [HR Ho]
  · iapply (each_with (F := F) (R := recs D κ) (Φ := fun p : Bool × Tr => openTok ER (dCell c p)) fun p => sep_mono_left (inv_d D κ c p))
    isplitl [HR] <;> iassumption
  · iapply (show (Pipeline.ownSems0 osem c : sProp 𝕄) ⊢ bigSep Finset.univ fun p : Bool × Tr => semVal (dCell c p) 0 from Entails.of_eq rfl)
    iexact Hs

omit [FloatOps F] in
/-- What every transfer starts from, gathered. -/
theorem init_all (D : Bool → Dev nD → Vec F S4x16x64x256 .bf16) (c : Dev nD) :
    bigSep Finset.univ (init0 D c)
      = iprop((((c : Thread nD τ).loc main_v6 ↦{fullShare.right} hC D false c) ∗ ((c : Thread nD τ).loc main_v8 ↦{fullShare.right} hC D true c))
        ∗ (bigSep Finset.univ fun k : Tr => atPos ER (sndCell c k) 0 ∅ 0) ∗ (bigSep Finset.univ fun k : Tr => reached ER (sndCell c k) 0)
        ∗ (bigSep Finset.univ fun k : Tr => atPos ER (rcvCell c k) 0 ∅ 0) ∗ (bigSep Finset.univ fun k : Tr => dutyTok ER (sndCell c k) 0 ())
        ∗ (bigSep Finset.univ fun k : Tr => dutyTok ER (rcvCell (pn c) k) 0 ()) ∗ bigSep Finset.univ fun k : Tr => (cred (tallyAt (rcvCell c k) () N) : sProp 𝕄)) := by
  unfold init0
  rw [bigSep_sep', bigSep_sep', bigSep_sep', bigSep_sep', bigSep_sep', bigSep_sep', over_tr, ← src_chunks0, ← src_chunks1]

omit [FloatOps F] in
/-- The landing chunks, from the two landing buffers at anything. -/
theorem land_all (c : Dev nD) :
    iprop((∃ f : Buf (Elt F) ((c : Thread nD τ).loc cc0_scratch0), (c : Thread nD τ).loc cc0_scratch0 ↦{fullShare} f)
        ∗ (∃ f : Buf (Elt F) ((c : Thread nD τ).loc cc0_scratch1), (c : Thread nD τ).loc cc0_scratch1 ↦{fullShare} f)
        ∗ bigSep Finset.univ fun k : Tr => reached ER (rcvCell c k) 0)
      ⊢ (bigSep Finset.univ (land0 (F := F) c) : sProp 𝕄) := by
  have e : (bigSep Finset.univ (land0 (F := F) c) : sProp 𝕄)
      = iprop(((bigSep Finset.univ fun b : Fin 4 => iprop(∃ f, dPts (F := F) c (false, b) f)) ∗ bigSep Finset.univ fun b : Fin 4 => iprop(∃ f, dPts (F := F) c (true, b) f))
        ∗ bigSep Finset.univ fun k : Tr => reached ER (rcvCell c k) 0) := by
    unfold land0
    rw [bigSep_sep', over_tr]
  rw [e]
  iintro ⟨⟨%f, H0⟩, ⟨%g, H1⟩, HR⟩
  isplitr [HR]
  · isplitl [H0]
    · iapply (show ((c : Thread nD τ).loc cc0_scratch0 ↦{fullShare} f : sProp 𝕄) ⊢ bigSep Finset.univ fun b : Fin 4 => iprop(∃ f, dPts (F := F) c (false, b) f) from by
        rw [dst_chunks0]
        exact bigSep_mono fun b _ => exists_intro (Φ := fun f => dPts (F := F) c (false, b) f) f)
      iexact H0
    · iapply (show ((c : Thread nD τ).loc cc0_scratch1 ↦{fullShare} g : sProp 𝕄) ⊢ bigSep Finset.univ fun b : Fin 4 => iprop(∃ f, dPts (F := F) c (true, b) f) from by
        rw [dst_chunks1]
        exact bigSep_mono fun b _ => exists_intro (Φ := fun f => dPts (F := F) c (true, b) f) g)
      iexact H1
  · iexact HR

omit [FloatOps F] in
/-- Every transfer done, gathered. -/
theorem fin_all (D : Bool → Dev nD → Vec F S4x16x64x256 .bf16) (c : Dev nD) :
    bigSep Finset.univ (fin D c)
      = iprop((((c : Thread nD τ).loc main_v6 ↦{fullShare.right} hC D false c) ∗ ((c : Thread nD τ).loc main_v8 ↦{fullShare.right} hC D true c))
        ∗ (((c : Thread nD τ).loc cc0_scratch0 ↦{fullShare} rC D false c) ∗ ((c : Thread nD τ).loc cc0_scratch1 ↦{fullShare} rC D true c))
        ∗ (Pipeline.ownSems0 osem c : sProp 𝕄)) := by
  have e : (Pipeline.ownSems0 osem c : sProp 𝕄)
      = iprop((bigSep Finset.univ fun k : Tr => semVal (sndCell c k) 0) ∗ bigSep Finset.univ fun k : Tr => semVal (rcvCell c k) 0) := by
    unfold Pipeline.ownSems0
    rw [over_pair]
    rfl
  unfold fin
  rw [bigSep_sep', bigSep_sep', bigSep_sep', over_tr, over_tr, ← src_chunks0, ← src_chunks1, e]
  refine congrArg _ (congrArg (fun X => iprop(X ∗ _)) ?_)
  rw [dst_chunks0, dst_chunks1]

omit [FloatOps F] in
theorem halves (ℓ : Loc nD τ sig) (f : Buf (Elt F) ℓ) : (ℓ ↦{fullShare} f : sProp 𝕄) ⊢ iprop((ℓ ↦{fullShare.left} f) ∗ ℓ ↦{fullShare.right} f) :=
  (pointsTo_share (PosShare.mem_left_op_right fullShare)).mp
omit [FloatOps F] in
theorem whole_again (ℓ : Loc nD τ sig) (f : Buf (Elt F) ℓ) : iprop((ℓ ↦{fullShare.left} f) ∗ ℓ ↦{fullShare.right} f) ⊢ (ℓ ↦{fullShare} f : sProp 𝕄) :=
  (pointsTo_share (PosShare.mem_left_op_right fullShare)).mpr

/-! ## The states around the region -/

/-- What the protocol has when @main starts. -/
def startG (c : Dev nD) : sProp 𝕄 := iprop((∃ κ, recs (kvD m) κ) ∗ deal (F := F) c ∗ levAts L lv ∗ ∃ W, owes (c : Thread nD τ) (O₀ c) W)
/-- What it has at the end. -/
def endG (c : Dev nD) : sProp 𝕄 := iprop(semVal (barCell c) 0 ∗ ∃ W, owes (c : Thread nD τ) 0 W)

abbrev restH (c : Dev nD) : sProp 𝕄 := StableHlo.held (c : Thread nD τ) (Pipeline.ucRefs τ sig \ arrs) (V0 m c)

def preR (c : Dev nD) : sProp 𝕄 := iprop(StableHlo.held (c : Thread nD τ) (Pipeline.ucRefs τ sig) (V0 m c) ∗ startG m c)
def postR (c : Dev nD) : sProp 𝕄 := iprop(StableHlo.held (c : Thread nD τ) (Pipeline.ucRefs τ sig) (V1 m c) ∗ endG (F := F) c)
/-- What enters the invariant. -/
def inX (c : Dev nD) : sProp 𝕄 :=
  iprop((∃ κ, recs (kvD m) κ) ∗ bar0 (F := F) c ∗ bigSep Finset.univ (init0 (kvD m) c) ∗ bigSep Finset.univ fun k : Tr => reached ER (rcvCell c k) 0)
/-- What it gives back. -/
def outY (c : Dev nD) : sProp 𝕄 :=
  iprop(semVal (barCell c) 0 ∗ ((c : Thread nD τ).loc main_v6 ↦{fullShare.right} hC (kvD m) false c)
    ∗ (c : Thread nD τ).loc main_v8 ↦{fullShare.right} hC (kvD m) true c)

theorem entry (c : Dev nD) : iprop(preR m c ∗ Pipeline.ownSems0 osem c ∗ levAts L lv)
    ⊢ |={Set.univ}=> iprop((dats m 0 c).arrays (dats m 0 c).A ∗ emp ∗ (dats m 0 c).owesAt () 0 ∗ inX m c ∗ restH m c) := by
  unfold preR startG deal inX bar0
  rw [init_all, arrays_eq, held_arrs]
  iintro ⟨⟨⟨⟨H4, H6, H8, H9⟩, Hz⟩, ⟨%κ, #HR⟩, ⟨HaB, Hop, ⟨HtB, HtS, HtR⟩, HcB, HcR⟩, #Hlev, ⟨%W, HO⟩⟩, Hos, -⟩
  imod (open_cells (kvD m) κ c) $$ [Hop Hos] with ⟨⟨HaS, HrS⟩, HaR, HrR⟩
  · isplitr; · iexact HR
    isplitl [Hop] <;> iassumption
  ihave H6' := (halves _ _) $$ H6
  icases H6' with ⟨H6a, H6b⟩
  ihave H8' := (halves _ _) $$ H8
  icases H8' with ⟨H8a, H8b⟩
  imodintro
  isplitl [H4 H6a H8a H9]
  · isplitl [H4]; · iexact H4
    isplitl [H6a]; · iexact H6a
    isplitl [H8a]; · iexact H8a
    iexact H9
  isplitr; · iempintro
  isplitl [HO]
  · iapply (owes_in (dats m 0 c) 0 (O₀ c) rfl W rfl)
    iexact HO
  isplitr [Hz]
  · isplitr
    · iexists κ; iexact HR
    isplitl [HaB HtB HcB]
    · isplitl [HaB]; · iexact HaB
      isplitl [HtB]; · iexact HtB
      isplitl [HcB]; · iexact HcB
      iexact Hlev
    isplitr [HrR]
    · isplitl [H6b H8b]
      · isplitl [H6b]; · iexact H6b
        iexact H8b
      isplitl [HaS]; · iexact HaS
      isplitl [HrS]; · iexact HrS
      isplitl [HaR]; · iexact HaR
      isplitl [HtS]; · iexact HtS
      isplitl [HtR]; · iexact HtR
      iexact HcR
    · iexact HrR
  · iexact Hz

theorem inv_in (c : Dev nD) : iprop(inX m c ∗ emp ∗ Pipeline.scopedRest spec0 c) ⊢ inv m c 0 := by
  have eT : bigSep Finset.univ (trAt m c 0) = iprop(bigSep Finset.univ (init0 (kvD m) c) ∗ bigSep Finset.univ (land0 (F := F) c)) := by
    rw [← bigSep_sep']
    exact bigSep_congr fun k _ => trAt_zero m c k
  have eB : barAt (F := F) c 0 = bar0 c := if_pos rfl
  unfold inX inv
  rw [eT, eB, scopedRest0_eq]
  iintro ⟨⟨HR, HB, Hi, Hr⟩, -, H0, H1, ⟨%f2, H2⟩, ⟨%f3, H3⟩⟩
  isplitl [HR]; · iexact HR
  isplitl [HB]; · iexact HB
  isplitr [H2 H3]
  · isplitl [Hi]; · iexact Hi
    iapply (land_all (F := F) c)
    isplitl [H0]; · iexact H0
    isplitl [H1] <;> iassumption
  · unfold sumsAt
    iexists f2
    iexists f3
    isplitr
    · ipureintro
      exact fun b hb => absurd hb (Nat.not_lt_zero _)
    isplitl [H2]
    · iapply (Entails.of_eq (owns_whole (c : Thread nD τ) cc0_scratch2 fullShare f2).symm)
      iexact H2
    · iapply (Entails.of_eq (owns_whole (c : Thread nD τ) cc0_scratch3 fullShare f3).symm)
      iexact H3

theorem inv_out (c : Dev nD) : inv m c 8 ⊢ iprop(outY m c ∗ Pipeline.ownSems0 osem c ∗ Pipeline.scopedRest spec0 c) := by
  have eT : bigSep Finset.univ (trAt m c 8) = bigSep Finset.univ (fin (kvD m) c) :=
    bigSep_congr fun k _ => trAt_fin m c 8 k (by have := k.2.isLt; omega)
  have eB : barAt (F := F) c 8 = semVal (barCell c) 0 := if_neg (by decide)
  unfold inv outY sumsAt
  rw [eT, eB, fin_all, scopedRest0_eq]
  iintro ⟨-, HB, ⟨⟨H6, H8⟩, ⟨H0, H1⟩, Hos⟩, ⟨%Xo, %Xl, -, H2, H3⟩⟩
  isplitl [HB H6 H8]
  · isplitl [HB]; · iexact HB
    isplitl [H6] <;> iassumption
  isplitl [Hos]; · iexact Hos
  isplitl [H0]; · iexists _; iexact H0
  isplitl [H1]; · iexists _; iexact H1
  isplitl [H2]
  · iexists Xo
    iapply (Entails.of_eq (owns_whole (c : Thread nD τ) cc0_scratch2 fullShare Xo))
    iexact H2
  · iexists Xl
    iapply (Entails.of_eq (owns_whole (c : Thread nD τ) cc0_scratch3 fullShare Xl))
    iexact H3

theorem exitR (c : Dev nD) : iprop((dats m 0 c).arraysAt cfg0.N ∗ (dats m 0 c).owesAt () (Fin.last cfg0.N) ∗ outY m c ∗ restH m c)
    ⊢ |={Set.univ}=> postR m c := by
  have hO : (dats m 0 c).owed (Fin.last cfg0.N) = 0 := by
    show (if (Fin.last cfg0.N).val = 0 then O₀ c else 0) = 0
    exact if_neg (by decide)
  unfold outY postR endG
  rw [held_V1]
  iintro ⟨Ha, HO, ⟨HB, H6b, H8b⟩, Hz⟩
  ihave Ha' := (arraysAt_end m c) $$ Ha
  icases Ha' with ⟨H4, H6a, H8a, H9⟩
  ihave H6 := (whole_again ((c : Thread nD τ).loc main_v6) (V0 m c main_v6)) $$ [H6a H6b]
  · isplitl [H6a]; · iexact H6a
    iexact H6b
  ihave H8 := (whole_again ((c : Thread nD τ).loc main_v8) (V0 m c main_v8)) $$ [H8a H8b]
  · isplitl [H8a]; · iexact H8a
    iexact H8b
  ihave HO' := (owes_out (dats m 0 c) (Fin.last cfg0.N) 0 hO) $$ HO
  imodintro
  isplitl [H4 H6 H8 H9 Hz]
  · isplitr [Hz]
    · isplitl [H4]; · iexact H4
      isplitl [H6]; · iexact H6
      isplitl [H8] <;> iassumption
    · iexact Hz
  isplitl [HB]; · iexact HB
  iexact HO'

/-! ## The region -/

abbrev adm : (p : Fin 1) → (pcfgs (F := F) p).Adm := fun p => (cfgs p).toPCfg_adm

theorem osem_ok : Pipeline.OwnSemFacts spec0 osem := ⟨by decide, osem_inj, by decide⟩

theorem stage_low : ∀ (w : Fin 4) (s : Fin (spec0 w).nbuf), ((spec0 w).sem s).val < 6 := by decide

def regA : Pipeline.RDat.RegionSeg (pcfgs (F := F)) adm (dats m) () (defs₀ (F := F)) 𝒱₀ L lv 0 where
  win := winFacts0.to₀
  block_pos := block_pos0
  stage_whole := stage_whole0
  K := Bool × Tr
  osem := osem
  ho := osem_ok
  hbody c := body_ok m c
  hwaits c := Pipeline.RDat.cellsWaits_intro _ (dats m) () 0 c fun w s t => mayWait_low c _ (stage_low w s) _ (by
    show (if t.val = 0 then O₀ c else 0) = O₀ c ∨ (if t.val = 0 then O₀ c else 0) = 0
    split
    · exact .inl rfl
    · exact .inr rfl)
  pre := preR m
  post := postR m
  X := inX m
  Y := outY m
  Z := restH m
  hentry c := by
    have h : (Pipeline.prefHeld (pcfgs (F := F) 0).pre c (fun _ => fullShare) (adm (F := F) 0).1 : sProp 𝕄) = iprop(emp) := Pipeline.prefHeld_of_none (pcfgs (F := F) 0).pre rfl c (fun _ => fullShare) (adm (F := F) 0).1
    rw [h]
    exact entry m c
  hin c := by
    have h : (Pipeline.prefHeld (pcfgs (F := F) 0).pre c (fun _ => fullShare) (adm (F := F) 0).1 : sProp 𝕄) = iprop(emp) := Pipeline.prefHeld_of_none (pcfgs (F := F) 0).pre rfl c (fun _ => fullShare) (adm (F := F) 0).1
    rw [h]
    exact inv_in m c
  hout c := inv_out m c
  hexit c := exitR m c

end Cert.Att

end
-- ==== Proof.Run.lean ====
/-
  The whole run: the launch's state dealt to the devices, @main as two stretches of host operations around the region.
-/
module

public import proofs.«01_k».proof.Proof.Region
public import Idealize.ShloMosaic.Lib.Quiescent

@[expose] public section

set_option maxRecDepth 16384

noncomputable section

namespace Cert.Att

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

/-- The launch element of the cells, on device 0. -/
def G (c : Dev nD) : sProp 𝕄 := if c = 0 then BI.own (ER (launchOf bars dcells toks)) else iprop(emp)

omit [FloatOps F] in
theorem G_all : bigSep Finset.univ (G (F := F)) = BI.own (ER (launchOf bars dcells toks)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G
  rw [if_pos rfl]
  exact BI.equiv_iff.mp sep_emp

def u₀ : UU :=
  (initOf (Pipeline.cells (Pipeline.pin (pcfgs (F := F)) adm) cellOf_inj) (Pipeline.launchToks (Pipeline.pin (pcfgs (F := F)) adm) cellOf_inj),
    launchOf bars dcells toks)

/-- A device's buffers as it starts. -/
abbrev Vm (c : Dev nD) : Valuation τ sig (Elt F) := fun b => m (c, b)

/-- The state @main starts in. -/
def T₀ (c : Dev nD) : sProp 𝕄 := iprop(StableHlo.held (c : Thread nD τ) (Pipeline.ucRefs τ sig) (Vm m c) ∗ startG m c)

/-- What of a device's holdings at launch is not the protocol's. -/
def plain (c : Dev nD) : sProp 𝕄 :=
  iprop((cred (tallyAt (barCell c) () 1) ∗ bigSep Finset.univ fun k : Tr => cred (tallyAt (rcvCell c k) () N))
    ∗ StableHlo.held (c : Thread nD τ) (Pipeline.ucRefs τ sig) (Vm m c) ∗ owes (c : Thread nD τ) (O₀ c) ∅)

/-- What the cells' launch gives a device. -/
def dealt (c : Dev nD) : sProp 𝕄 :=
  iprop(atPos ER (barCell c) 0 ∅ 0 ∗ (bigSep Finset.univ fun p : Bool × Tr => openTok ER (dCell c p))
    ∗ (dutyTok ER (barCell (pn c)) 0 () ∗ (bigSep Finset.univ fun k : Tr => dutyTok ER (sndCell c k) 0 ())
      ∗ bigSep Finset.univ fun k : Tr => dutyTok ER (rcvCell (pn c) k) 0 ()))

theorem T₀_intro (κ : GSem nD τ sig → ℕ) (c : Dev nD) :
    iprop(iprop(recs (kvD m) κ ∗ levAts L lv) ∗ (dealt (F := F) c ∗ plain m c)) ⊢ T₀ m c := by
  unfold dealt plain T₀ startG deal
  iintro ⟨⟨HR, Hl⟩, ⟨Ha, Ho, Ht⟩, Hc, Hh, HO⟩
  isplitl [Hh]; · iexact Hh
  isplitl [HR]; · iexists κ; iexact HR
  isplitl [Ha Ho Ht Hc]
  · isplitl [Ha]; · iexact Ha
    isplitl [Ho]; · iexact Ho
    isplitl [Ht]; · iexact Ht
    iexact Hc
  isplitl [Hl]; · iexact Hl
  iexists ∅
  iexact HO

theorem core_launch (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(plain m c ∗ (semVal (barCell c) 0 ∗ G c)) : sProp 𝕄) := by
  rw [show (unscopedBufs c (fun b => m ((c : Thread nD τ).loc b)) : sProp 𝕄) = StableHlo.held (c : Thread nD τ) (Pipeline.ucRefs τ sig) (Vm m c) from
    Pipeline.unscopedBufs_held c (Vm m c), unscopedSems0_eq]
  unfold plain
  iintro ⟨Hh, Hv, HO, Hcr, -, HG⟩
  ihave Hc := (creds (F := F) c) $$ Hcr
  isplitr [Hv HG]
  · isplitl [Hc]; · iexact Hc
    isplitl [Hh] <;> iassumption
  isplitl [Hv] <;> iassumption

omit [FloatOps F] in
/-- Two families side by side. -/
theorem zip_all (Φ Ψ : Dev nD → sProp 𝕄) :
    iprop(bigSep Finset.univ Φ ∗ bigSep Finset.univ Ψ) = bigSep Finset.univ fun c => iprop(Φ c ∗ Ψ c) := (bigSep_sep' _ _ _).symm

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  refine (sep_mono_left (bigSep_mono fun c _ => core_launch m ρ c)).trans ?_
  rw [← zip_all, ← zip_all, G_all]
  iintro ⟨⟨HB, Hv, Hu⟩, #Hl⟩
  imod (Rounds.fund_launch ER (attRd (kvD m)) bars_dcells (fun g _ h => h) toks) $$ [Hv Hu] with ⟨%κ, -, #Hinv, #Hr, Hat, Hopen, Htok⟩
  · isplitl [Hv]
    · iapply (Entails.of_eq (over_bars (fun g => semVal g 0)).symm)
      iexact Hv
    · iexact Hu
  imodintro
  iapply (each_with (F := F) (R := iprop(recs (kvD m) κ ∗ levAts L lv)) (Φ := fun c => iprop(dealt (F := F) c ∗ plain m c)) fun c => T₀_intro m κ c)
  isplitr
  · isplitr
    · unfold recs
      isplitr; · iexact Hinv
      iexact Hr
    · iexact Hl
  iapply (Entails.of_eq (zip_all (dealt (F := F)) (plain m)))
  isplitr [HB]
  · unfold dealt
    iapply (Entails.of_eq (zip_all (F := F) _ _))
    isplitl [Hat]
    · iapply (Entails.of_eq (over_bars (fun g => atPos ER g 0 ∅ 0)))
      iexact Hat
    iapply (Entails.of_eq (zip_all (F := F) _ _))
    isplitl [Hopen]
    · iapply (Entails.of_eq (over_dcells (fun g => openTok ER g)))
      iexact Hopen
    · iapply (Entails.of_eq (toks_dealt (F := F)))
      iexact Htok
  · iexact HB

/-! ## @main -/

theorem V0_eq (c : Dev nD) : V0 m c = StableHlo.after hostOps0 (Vm m c) := congrArg (fun l => StableHlo.after l (Vm m c)) (List.append_nil hostOps0)

def H0 : Pipeline.HostSeg (Ix := Unit) (Name := ℕ) (U := UU) (Lvl := ℕ) (pcfgs (F := F)) defs₀ 𝒱₀ L lv :=
  Pipeline.HostSeg.ofOps _ _ _ _ _ (Pipeline.ucRefs τ sig) hostOps0
    (fun op h => Pipeline.sub_ucRefs op (List.forall_iff_forall_mem.mp hostOps0_sub op h)) (List.forall_iff_forall_mem.mp hostOps0_fresh) (Vm m) (startG m)
def H1 : Pipeline.HostSeg (Ix := Unit) (Name := ℕ) (U := UU) (Lvl := ℕ) (pcfgs (F := F)) defs₀ 𝒱₀ L lv :=
  Pipeline.HostSeg.ofOps _ _ _ _ _ (Pipeline.ucRefs τ sig) hostOps1
    (fun op h => Pipeline.sub_ucRefs op (List.forall_iff_forall_mem.mp hostOps1_sub op h)) (List.forall_iff_forall_mem.mp hostOps1_fresh) (V1 m) (endG (F := F))

def segs : List (Pipeline.RDat.Seg (pcfgs (F := F)) adm (dats m) () defs₀ 𝒱₀ L lv) := [.host (H0 m), .region (regA m), .host (H1 m)]

theorem main_eq (c : Dev nD) : main (F := F) c = Pipeline.RDat.Seg.run (segs m) := by
  simp only [segs, Pipeline.RDat.Seg.run]
  exact (main_chain c).trans rfl

/-- The buffers after @main. -/
def V2 (c : Dev nD) : Valuation τ sig (Elt F) := StableHlo.after hostOps1 (V1 m c)

/-- The state @main ends in. -/
def Tₙ (c : Dev nD) : sProp 𝕄 := iprop(StableHlo.held (c : Thread nD τ) (Pipeline.ucRefs τ sig) (V2 m c) ∗ semVal (barCell c) 0)

/-- The result of device `c`. -/
def resD (c : Dev nD) : Vec F S4x256x16x64 .bf16 := transpose S4x256x16x64 [0, 3, 1, 2] (outD m c) transposes_S4x16x64x256_S4x256x16x64_0_3_1_2

theorem V2_res (c : Dev nD) : V2 m c main_v10 = resD m c := by
  show StableHlo.after hostOps1 (V1 m c) (Proc.devRef .tc main_v10) = _
  rw [StableHlo.after_cons, StableHlo.after_nil]
  refine (StableHlo.unary_result main_v9 main_v10 _ _ _ _).trans ?_
  unfold resD
  exact congrArg (fun X => transpose S4x256x16x64 [0, 3, 1, 2] X transposes_S4x16x64x256_S4x256x16x64_0_3_1_2) (Function.update_self _ _ _)

theorem V2_other (c : Dev nD) (b : Ref sig .tc) (h10 : b ≠ main_v10) (h9 : b ≠ main_v9) : V2 m c b = V m c b := by
  show StableHlo.after hostOps1 (V1 m c) (Proc.devRef .tc b) = _
  rw [StableHlo.after_cons, StableHlo.after_nil]
  refine (StableHlo.unary_result_ne main_v9 main_v10 _ _ _ _ h10).trans ?_
  exact Function.update_of_ne (fun e => h9 (Proc.devRef_injective _ e)) _ _

/-- What the claims read. -/
def outs : Finset (DevRef τ sig) := {Proc.devRef .tc main_arg0, Proc.devRef .tc main_arg1, Proc.devRef .tc main_arg2, Proc.devRef .tc main_v10}

theorem outs_sub : outs ⊆ Pipeline.ucRefs τ sig := by decide

theorem held_outs (c : Dev nD) :
    (StableHlo.held (c : Thread nD τ) (Pipeline.ucRefs τ sig) (V2 m c) : sProp 𝕄)
      = iprop((pt c main_arg0 (m ((c : Thread nD τ).loc main_arg0)) ∗ pt c main_arg1 (m ((c : Thread nD τ).loc main_arg1))
          ∗ pt c main_arg2 (m ((c : Thread nD τ).loc main_arg2)) ∗ pt c main_v10 (resD m c))
        ∗ StableHlo.held (c : Thread nD τ) (Pipeline.ucRefs τ sig \ outs) (V2 m c)) := by
  have e0 : V2 m c main_arg0 = m ((c : Thread nD τ).loc main_arg0) := (V2_other m c main_arg0 (by decide) (by decide)).trans (V_main_arg0 m c)
  have e1 : V2 m c main_arg1 = m ((c : Thread nD τ).loc main_arg1) := (V2_other m c main_arg1 (by decide) (by decide)).trans (V_main_arg1 m c)
  have e2 : V2 m c main_arg2 = m ((c : Thread nD τ).loc main_arg2) := (V2_other m c main_arg2 (by decide) (by decide)).trans (V_main_arg2 m c)
  have eO : (StableHlo.held (c : Thread nD τ) outs (V2 m c) : sProp 𝕄)
      = iprop(pt c main_arg0 (V2 m c main_arg0) ∗ pt c main_arg1 (V2 m c main_arg1) ∗ pt c main_arg2 (V2 m c main_arg2) ∗ pt c main_v10 (V2 m c main_v10)) := by
    unfold StableHlo.held outs
    rw [bigSep_insert (by decide), bigSep_insert (by decide), bigSep_insert (by decide), bigSep_singleton]
    rfl
  rw [StableHlo.held_sub_split (c : Thread nD τ) outs_sub (V2 m c), eO, e0, e1, e2, V2_res]

theorem unscoped_eq : ∀ sm : SemLoc sig, sm.isScoped .tc = false → sm = .reg barS := by decide

set_option backward.isDefEq.respectTransparency.types false in
/-- The run, at any float values: from any memory with zero counters, every weakly fair execution of @main on the eight
    devices terminates; each device ends with its arguments as they were and its result at `resD`, and every counter at zero. -/
theorem run_main : θ_run defs (onTc (τ := τ) (main (F := F))) ⟨m, fun _ => 0, ρ⟩
    (fun r => (∀ c : Dev nD, (r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2))
        ∧ r.2.mem ((c : Thread nD τ).loc main_v10) = resD m c) ∧ r.2.sem = fun _ => 0) :=
  Pipeline.RDat.θ_run_regions_kit_sems (pcfgs (F := F)) adm (dats m) () cellOf_inj EP defs₀ 𝒱₀ L lv m ρ main (segs m)
    (fun c Q => by rw [main_eq m c])
    (by simp only [segs, Pipeline.RDat.Seg.pipes_host, Pipeline.RDat.Seg.pipes_region, Pipeline.RDat.Seg.pipes_nil]; decide)
    (O₀ := O₀) (hL := L_of_ne) (G := G) (u₀ := u₀ (F := F))
    (hu₀ := by
      unfold u₀
      iintro Hu
      ihave H := (ownU_pair _ _) $$ Hu
      icases H with ⟨HP, HX⟩
      imodintro
      isplitl [HP]; · iexact HP
      iapply (Entails.of_eq (G_all (F := F)).symm)
      iexact HX)
    (T₀ := T₀ m) (Tₙ := Tₙ m)
    (hch := by
      refine ⟨fun c => .rfl, fun c => ?_, fun c => .rfl, fun c => ?_⟩
      · show iprop(StableHlo.held (c : Thread nD τ) (Pipeline.ucRefs τ sig) (StableHlo.after hostOps0 (Vm m c)) ∗ startG m c) ⊢ preR m c
        unfold preR
        rw [V0_eq]
      · show iprop(StableHlo.held (c : Thread nD τ) (Pipeline.ucRefs τ sig) (V2 m c) ∗ endG (F := F) c)
          ⊢ iprop(Tₙ m c ∗ ∃ W, owes (c : Thread nD τ) (0 : CellTallies nD τ sig Unit) W)
        unfold Tₙ endG
        iintro ⟨Hh, Hb, HO⟩
        isplitr [HO]
        · isplitl [Hh] <;> iassumption
        · iexact HO)
    (hinit := init m ρ)
    (QY := fun c s => ((s.mem ((c : Thread nD τ).loc main_arg0) = m ((c : Thread nD τ).loc main_arg0)
        ∧ s.mem ((c : Thread nD τ).loc main_arg1) = m ((c : Thread nD τ).loc main_arg1)
        ∧ s.mem ((c : Thread nD τ).loc main_arg2) = m ((c : Thread nD τ).loc main_arg2))
        ∧ s.mem ((c : Thread nD τ).loc main_v10) = resD m c) ∧ s.sem (barCell c) = 0)
    (hfin := fun c s' => by
      unfold Tₙ
      rw [held_outs]
      iintro ⟨⟨⟨⟨H0, H1, H2, H3⟩, -⟩, Hb⟩, HSI⟩
      icombine HSI H0 gives %h0
      icombine HSI H1 gives %h1
      icombine HSI H2 gives %h2
      icombine HSI H3 gives %h3
      icombine HSI Hb gives %hb
      imodintro
      isplitr
      · ipureintro
        exact ⟨⟨⟨Buf.eq_of_forall_mem_univ h0, Buf.eq_of_forall_mem_univ h1, Buf.eq_of_forall_mem_univ h2⟩, Buf.eq_of_forall_mem_univ h3⟩, by simpa using hb⟩
      iexact HSI)
    (hQ := fun s h hs => ⟨fun c => (h c).1,
      sem_eq_zero hs fun c sm hsm => by
        obtain rfl := unscoped_eq sm hsm
        exact (h c).2⟩)

end Cert.Att

end
-- ==== Proof.Frames.lean ====
/-
  The claims that ask for no value: each program runs, leaves its arguments as they were and every counter at zero.
-/
module

public import proofs.«01_k».proof.Defs
public import proofs.«01_k».proof.Proof.Gen.Kernel
public import proofs.«01_k».proof.Proof.Gen.ReferenceIdeal.Run
public import proofs.«01_k».proof.Proof.Run

@[expose] public section

set_option maxRecDepth 16384

noncomputable section

namespace Cert.Att

open Idealize.ShloMosaic Idealize.SL.Sem

/-- The run without its value. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  (θ_run (Cert.KernelIdeal.defs (F := F)) _ _).mono (fun _ h => ⟨fun c => (h.1 c).1, h.2⟩) (run_main (F := F) m ρ)

/-- The two printed programs declare the same functions. -/
theorem defs_eq : Cert.Kernel.defs (F := Bits) = Cert.KernelIdeal.defs (F := Bits) := by chain_rfl

/-- The kernel as printed: the run's argument, read at the machine's floats. -/
theorem frame_kernel : Cert.quiescent_Kernel (hKernel := Cert.Kernel.Gen.facts) := fun m ρ _ => by
  rw [defs_eq]
  exact frame_any (F := Bits) m ρ

theorem frame_ideal : Cert.quiescent_KernelIdeal (hKernelIdeal := Cert.KernelIdeal.Gen.facts) := fun m ρ _ => frame_any (F := Ideal) m ρ

theorem frame_reference : Cert.quiescent_ReferenceIdeal (hReferenceIdeal := Cert.ReferenceIdeal.Gen.facts) := fun m ρ _ =>
  (θ_run (Cert.ReferenceIdeal.defs (F := Ideal)) _ _).mono
    (fun r h => ⟨fun c => (h c).2, sem_eq_zero_of_no_sems (by decide) r.2⟩) (Cert.ReferenceIdeal.Value.run (F := Ideal) m ρ)

end Cert.Att

end
-- ==== Proof.Block.lean ====
/-
  What one block of the kernel computes over the extended reals, element by element: sums of exponentials of scores, with the
  columns of the values and without.
-/
module

public import proofs.«01_k».proof.Proof.Data
public import Idealize.ShloMosaic.Lib.Pointwise

@[expose] public section

set_option maxRecDepth 16384

noncomputable section

namespace Cert.Att

open Cert.KernelIdeal Cert.KernelIdeal.Gen
open Idealize.ShloMosaic

/-- The weight of key row `t` for query row `i` in head `h`. -/
def wt (q k : Vec Ideal S1x16x64x256 .bf16) (h : Fin 16) (t i : Fin 256) : EReal :=
  Ideal.exp (∑ e : Fin 64, k (ix4 0 h e t) * q (ix4 0 h e i))

theorem pay4_at (q k : Vec Ideal S1x16x64x256 .bf16) (h : Fin 16) (i : Fin 256) :
    k0_pay4 q k (ix4 0 h 0 i) = ∑ t : Fin 256, wt q k h t i := by
  unfold wt
  pointwise [k0_pay4, k0_pay2, k0_pay1]

theorem pay3_at (q k v : Vec Ideal S1x16x64x256 .bf16) (h : Fin 16) (d : Fin 64) (i : Fin 256) :
    k0_pay3 q k v (ix4 0 h d i) = ∑ t : Fin 256, v (ix4 0 h d t) * wt q k h t i := by
  unfold wt
  pointwise [k0_pay3, k0_pay2, k0_pay1]

theorem pay5_at (q k v : Vec Ideal S1x16x64x256 .bf16) (l : Vec Ideal S1x16x1x256 .f32) (o : Vec Ideal S1x16x64x256 .f32)
    (h : Fin 16) (d : Fin 64) (i : Fin 256) :
    k0_pay5 q k l v o (ix4 0 h d i)
      = Ideal.div (o (ix4 0 h d i) + ∑ t : Fin 256, v (ix4 0 h d t) * wt q k h t i) (l (ix4 0 h 0 i) + ∑ t : Fin 256, wt q k h t i) := by
  unfold wt
  pointwise [k0_pay5, k0_pay1]

end Cert.Att

end
-- ==== Proof.Device.lean ====
/-
  What a device's result holds, element by element, in terms of its own arguments and its partner's keys and values.
-/
module

public import proofs.«01_k».proof.Proof.Block
public import proofs.«01_k».proof.Proof.Run

@[expose] public section

set_option maxRecDepth 16384

noncomputable section

namespace Cert.Att

open Cert.KernelIdeal Cert.KernelIdeal.Gen
open Idealize.ShloMosaic
open Idealize.ShloMosaic.TcCoe

section Arguments

variable {F : FTy → Type} [FloatOps F] (m : (ℓ : Loc nD τ sig) → Buf (Elt F) ℓ)

/-- Device `c`'s queries, keys and values. -/
abbrev inQ (c : Dev nD) : Vec F S4x256x16x64 .f32 := m ((c.tc : Thread nD τ).loc main_arg0)
abbrev inK (c : Dev nD) : Vec F S4x256x16x64 .f32 := m ((c.tc : Thread nD τ).loc main_arg1)
abbrev inV (c : Dev nD) : Vec F S4x256x16x64 .f32 := m ((c.tc : Thread nD τ).loc main_arg2)

theorem qD_eq (c : Dev nD) :
    qD m c = truncf .bf16 (transpose S4x16x64x256 [0, 2, 3, 1]
      (mulf (inQ m c) (broadcastInDim S4x256x16x64 ![] bcast_S_S4x256x16x64 (constant S_ .f32 0x3E000000#32)))
      transposes_S4x256x16x64_S4x16x64x256_0_2_3_1) bitsLt_bf16_f32 := by
  show V0 m c (Proc.devRef .tc main_v4) = _
  rw [V0_eq]
  after_results
theorem kD_eq (c : Dev nD) :
    kvD m false c = truncf .bf16 (transpose S4x16x64x256 [0, 2, 3, 1] (inK m c) transposes_S4x256x16x64_S4x16x64x256_0_2_3_1) bitsLt_bf16_f32 := by
  show V0 m c (Proc.devRef .tc main_v6) = _
  rw [V0_eq]
  after_results
theorem vD_eq (c : Dev nD) :
    kvD m true c = truncf .bf16 (transpose S4x16x64x256 [0, 2, 3, 1] (inV m c) transposes_S4x256x16x64_S4x16x64x256_0_2_3_1) bitsLt_bf16_f32 := by
  show V0 m c (Proc.devRef .tc main_v8) = _
  rw [V0_eq]
  after_results

theorem slot_at {e : EltTy} (b : Fin 4) (X : Vec F S4x16x64x256 e) (h : Fin 16) (d : Fin 64) (i : Fin 256) :
    slot b X (ix4 0 h d i) = X (ix4 b h d i) := by
  refine congrArg X (funext fun a => Fin.ext ?_)
  rw [Rect.emb_apply]
  fin_cases a <;> simp

end Arguments

variable (m : (ℓ : Loc nD τ sig) → Buf (Elt Ideal) ℓ)

theorem q_at (c : Dev nD) (b : Fin 4) (h : Fin 16) (e : Fin 64) (i : Fin 256) :
    qD m c (ix4 b h e i) = inQ m c (ix4 b i h e) * Ideal.ofBits .f32 0x3E000000#32 := by
  rw [qD_eq]
  pointwise []
theorem k_at (c : Dev nD) (b : Fin 4) (h : Fin 16) (e : Fin 64) (i : Fin 256) : kvD m false c (ix4 b h e i) = inK m c (ix4 b i h e) := by
  rw [kD_eq]
  pointwise []
theorem v_at (c : Dev nD) (b : Fin 4) (h : Fin 16) (e : Fin 64) (i : Fin 256) : kvD m true c (ix4 b h e i) = inV m c (ix4 b i h e) := by
  rw [vD_eq]
  pointwise []

/-- The weight that row `i` of the queries `Q` gives row `t` of the keys `K`. -/
def weight (Q K : Vec Ideal S4x256x16x64 .f32) (b : Fin 4) (h : Fin 16) (i t : Fin 256) : EReal :=
  Ideal.exp (∑ e : Fin 64, K (ix4 b t h e) * (Q (ix4 b i h e) * Ideal.ofBits .f32 0x3E000000#32))

theorem wt_at (c p : Dev nD) (b : Fin 4) (h : Fin 16) (i t : Fin 256) :
    wt (slot b (qD m c)) (slot b (kvD m false p)) h t i = weight (inQ m c) (inK m p) b h i t := by
  unfold wt weight
  exact congrArg Ideal.exp (Finset.sum_congr rfl fun e _ => by rw [slot_at, slot_at, q_at, k_at])

theorem rAt_at (c : Dev nD) (b : Fin 4) (h : Fin 16) (d : Fin 64) (i : Fin 256) :
    rAt m c b (ix4 0 h d i)
      = Ideal.div
          ((∑ t : Fin 256, inV m c (ix4 b t h d) * weight (inQ m c) (inK m c) b h i t)
            + ∑ t : Fin 256, inV m (pn c) (ix4 b t h d) * weight (inQ m c) (inK m (pn c)) b h i t)
          ((∑ t : Fin 256, weight (inQ m c) (inK m c) b h i t) + ∑ t : Fin 256, weight (inQ m c) (inK m (pn c)) b h i t) := by
  unfold rAt
  rw [pay5_at]
  unfold oAt lAt
  rw [pay3_at, pay4_at]
  simp only [wt_at, slot_at, v_at]

theorem resD_at (c : Dev nD) (b : Fin 4) (i : Fin 256) (h : Fin 16) (d : Fin 64) :
    resD m c (ix4 b i h d)
      = Ideal.div
          ((∑ t : Fin 256, inV m c (ix4 b t h d) * weight (inQ m c) (inK m c) b h i t)
            + ∑ t : Fin 256, inV m (pn c) (ix4 b t h d) * weight (inQ m c) (inK m (pn c)) b h i t)
          ((∑ t : Fin 256, weight (inQ m c) (inK m c) b h i t) + ∑ t : Fin 256, weight (inQ m c) (inK m (pn c)) b h i t) := by
  rw [← rAt_at]
  have e : resD m c (ix4 b i h d) = outD m c (ix4 b h d i) := by
    unfold resD
    pointwise []
  rw [e]
  exact congrArg (rAt m c b) (funext fun a => by fin_cases a <;> rfl)

end Cert.Att

end
-- ==== Proof.Split.lean ====
/-
  Where device `c`'s rows lie in the whole arrays, and sums over all rows as sums over its own and its partner's.
-/
module

public import proofs.«01_k».proof.Proof.Device
public import Idealize.ShloMosaic.Lib.Layout

@[expose] public section

set_option maxRecDepth 16384

noncomputable section

namespace Cert.Att

open Cert.KernelIdeal
open Idealize.ShloMosaic

/-- Row `i` of device `c` among all rows. -/
def row (c : Dev nD) (i : Fin 256) : Fin 512 :=
  ⟨256 * (c.val / 4) + i.val, by have := c.isLt; have := i.isLt; simp only [nD] at *; omega⟩

/-- A whole array's block on device `c`. -/
abbrev cut {α : Type} (c : Dev nD) (A : (⟨4, ![4, 512, 16, 64]⟩ : Shape).Idx → α) : (⟨4, ![4, 256, 16, 64]⟩ : Shape).Idx → α :=
  Layout.blockN ⟨4, ![4, 256, 16, 64]⟩ ⟨4, ![4, 512, 16, 64]⟩ (Layout.meshBlock [2, 2, 2] ![[], [0], [], []] c) A

theorem coord_row (c : Dev nD) : Layout.meshLin [2, 2, 2] c.val [0] = c.val / 4 := by
  revert c; decide

theorem cut_at {α : Type} (c : Dev nD) (A : (⟨4, ![4, 512, 16, 64]⟩ : Shape).Idx → α) (b : Fin 4) (i : Fin 256) (h : Fin 16) (d : Fin 64) :
    cut c A (ix4 b i h d) = A (ix4 b (row c i) h d) := by
  unfold cut
  rw [Layout.blockN_apply]
  refine congrArg A (funext fun a => Fin.ext ?_)
  rw [Layout.TilesN.idx_val]
  match a with
  | 0 => exact (congrArg (· + b.val) (Nat.zero_mul _)).trans (Nat.zero_add _)
  | 1 =>
    show Layout.meshLin [2, 2, 2] c.val [0] * 256 + i.val = 256 * (c.val / 4) + i.val
    rw [coord_row, Nat.mul_comm]
  | 2 => exact (congrArg (· + h.val) (Nat.zero_mul _)).trans (Nat.zero_add _)
  | 3 => exact (congrArg (· + d.val) (Nat.zero_mul _)).trans (Nat.zero_add _)

/-- A sum over all rows: this device's, then its partner's. -/
theorem sum_rows (c : Dev nD) (f : Fin 512 → EReal) :
    ∑ t : Fin 512, f t = (∑ t : Fin 256, f (row c t)) + ∑ t : Fin 256, f (row (pn c) t) := by
  rw [Fin.sum_univ_two_halves 256 256 rfl f]
  have hc : c.val < 8 := c.isLt
  have hp : (pn c).val = (c.val + 4) % 8 := rfl
  rcases Nat.lt_or_ge c.val 4 with h | h
  · refine congrArg₂ (· + ·) (Finset.sum_congr rfl fun t _ => congrArg f (Fin.ext ?_)) (Finset.sum_congr rfl fun t _ => congrArg f (Fin.ext ?_))
    · show t.val = 256 * (c.val / 4) + t.val; omega
    · show 256 + t.val = 256 * ((pn c).val / 4) + t.val; omega
  · rw [add_comm]
    refine congrArg₂ (· + ·) (Finset.sum_congr rfl fun t _ => congrArg f (Fin.ext ?_)) (Finset.sum_congr rfl fun t _ => congrArg f (Fin.ext ?_))
    · show 256 + t.val = 256 * (c.val / 4) + t.val; omega
    · show t.val = 256 * ((pn c).val / 4) + t.val; omega

/-- Every row is a row of some device. -/
theorem row_surj (t : Fin 512) : ∃ (c : Dev nD) (i : Fin 256), row c i = t := by
  rcases Nat.lt_or_ge t.val 256 with h | h
  · exact ⟨0, ⟨t.val, h⟩, Fin.ext (by show 256 * (0 / 4) + t.val = t.val; omega)⟩
  · exact ⟨4, ⟨t.val - 256, by have := t.isLt; omega⟩, Fin.ext (by show 256 * (4 / 4) + (t.val - 256) = t.val; omega)⟩

end Cert.Att

end
-- ==== Proof.Whole.lean ====
/-
  What the reference's result holds, element by element.
-/
module

public import proofs.«01_k».proof.Proof.Gen.ReferenceIdeal.Run
public import Idealize.ShloMosaic.Lib.Pointwise

@[expose] public section

set_option maxRecDepth 16384

noncomputable section

namespace Cert.Att

open Idealize.ShloMosaic
open Idealize.ShloMosaic.TcCoe
open Cert.ReferenceIdeal Cert.ReferenceIdeal.Gen

section Arrays

variable {F : FTy → Type} [FloatOps F]

/-- The scores, scaled; -/
def scores (Q K : FVec F S4x512x16x64 .f32) : FVec F S4x16x512x512 .f32 :=
  mulf (Host.dotGeneral dot_S4x512x16x64_S4x512x16x64_S4x16x512x512_3_3_1_1_02_02 none Q K)
    (broadcastInDim S4x16x512x512 ![] bcast_S_S4x16x512x512 (constant S_ .f32 0x3E000000#32))
/-- their maximum along the keys; -/
def top (S : FVec F S4x16x512x512 .f32) : FVec F S4x16x512 .f32 :=
  Host.reduce FloatOps.maximumf S (constant S_ .f32 0xFF800000#32) reducesTo_S4x16x512x512_S4x16x512_d3 h_S_
/-- one value per row, along the row; -/
def along (x : FVec F S4x16x512 .f32) : FVec F S4x16x512x512 .f32 :=
  broadcastInDim S4x16x512x512 ![0, 1, 2, 3] bcast_S4x16x512x1_S4x16x512x512_0_1_2_3
    (broadcastInDim S4x16x512x1 ![0, 1, 2] bcast_S4x16x512_S4x16x512x1_0_1_2 x)
/-- the exponentials of the scores less their maximum; -/
def exps (S : FVec F S4x16x512x512 .f32) : FVec F S4x16x512x512 .f32 := Host.exp (subf S (along (top S)))
/-- their sums along the keys; -/
def total (E : FVec F S4x16x512x512 .f32) : FVec F S4x16x512 .f32 :=
  Host.reduceAdd E (constant S_ .f32 0x00000000#32) reducesTo_S4x16x512x512_S4x16x512_d3 h_S_
/-- the values weighted by the quotients. -/
def mix (E : FVec F S4x16x512x512 .f32) (V : FVec F S4x512x16x64 .f32) : FVec F S4x512x16x64 .bf16 :=
  truncf .bf16 (transpose S4x512x16x64 [0, 3, 1, 2]
    (Host.dotGeneral dot_S4x512x16x64_S4x16x512x512_S4x16x64x512_1_3_3_2_02_01 none V (Host.divf E (along (total E))))
    transposes_S4x16x64x512_S4x512x16x64_0_3_1_2) bitsLt_bf16_f32

/-- The reference's result. -/
def attend (Q K V : FVec F S4x512x16x64 .f32) : FVec F S4x512x16x64 .bf16 := mix (exps (scores Q K)) V

end Arrays

theorem scores_at (Q K : FVec Ideal S4x512x16x64 .f32) (b : Fin 4) (h : Fin 16) (i t : Fin 512) :
    scores Q K (ix4 b h i t) = (∑ e : Fin 64, Q (ix4 b i h e) * K (ix4 b t h e)) * Ideal.ofBits .f32 0x3E000000#32 := by
  unfold scores
  pointwise []

theorem top_at (S : FVec Ideal S4x16x512x512 .f32) (b : Fin 4) (h : Fin 16) (i : Fin 512) :
    top S (ix3 b h i) = Finset.univ.fold max (Ideal.ofBits .f32 0xFF800000#32) fun t : Fin 512 => S (ix4 b h i t) := by
  unfold top
  pointwise []

theorem along_at (x : FVec Ideal S4x16x512 .f32) (b : Fin 4) (h : Fin 16) (i t : Fin 512) : along x (ix4 b h i t) = x (ix3 b h i) := by
  unfold along
  pointwise []

theorem exps_at (S : FVec Ideal S4x16x512x512 .f32) (b : Fin 4) (h : Fin 16) (i t : Fin 512) :
    exps S (ix4 b h i t) = Ideal.exp (S (ix4 b h i t) - top S (ix3 b h i)) := by
  rw [← along_at (top S) b h i t]
  rfl

theorem total_at (E : FVec Ideal S4x16x512x512 .f32) (b : Fin 4) (h : Fin 16) (i : Fin 512) :
    total E (ix3 b h i) = ∑ t : Fin 512, E (ix4 b h i t) := by
  unfold total
  pointwise []

theorem mix_at (E : FVec Ideal S4x16x512x512 .f32) (V : FVec Ideal S4x512x16x64 .f32) (b : Fin 4) (i : Fin 512) (h : Fin 16) (d : Fin 64) :
    mix E V (ix4 b i h d) = ∑ t : Fin 512, V (ix4 b t h d) * Ideal.div (E (ix4 b h i t)) (∑ u : Fin 512, E (ix4 b h i u)) := by
  simp only [← total_at E b h i]
  unfold mix
  pointwise []
  refine Finset.sum_congr rfl fun t _ => ?_
  rw [along_at]

/-- The score of key row `t` for query row `i`. -/
def score (Q K : FVec Ideal S4x512x16x64 .f32) (b : Fin 4) (h : Fin 16) (i t : Fin 512) : EReal :=
  (∑ e : Fin 64, Q (ix4 b i h e) * K (ix4 b t h e)) * Ideal.ofBits .f32 0x3E000000#32

/-- The result: the values weighted by the exponentials of the scores, less their maximum, over the sum of these. -/
theorem attend_at (Q K V : FVec Ideal S4x512x16x64 .f32) (b : Fin 4) (i : Fin 512) (h : Fin 16) (d : Fin 64)
    (M : EReal) (hM : M = Finset.univ.fold max (Ideal.ofBits .f32 0xFF800000#32) (score Q K b h i)) :
    attend Q K V (ix4 b i h d)
      = ∑ t : Fin 512, V (ix4 b t h d) * Ideal.div (Ideal.exp (score Q K b h i t - M)) (∑ u : Fin 512, Ideal.exp (score Q K b h i u - M)) := by
  unfold attend
  rw [mix_at]
  have hE : ∀ t, exps (scores Q K) (ix4 b h i t) = Ideal.exp (score Q K b h i t - M) := fun t => by
    rw [exps_at, top_at, scores_at, hM]
    refine congrArg (fun f => Ideal.exp (_ - Finset.univ.fold max (Ideal.ofBits .f32 0xFF800000#32) f)) (funext fun u => ?_)
    rw [scores_at]; rfl
  simp only [hE]

end Cert.Att

end
-- ==== Proof.Softmax.lean ====
/-
  The equation: over the extended reals, values weighted by the exponentials of finite scores and divided by their sum do not
  change when a maximum is first taken off the scores and each weight is divided by itself.
-/
module

public import Idealize.ShloMosaic.PureOps.Ideal

@[expose] public section

noncomputable section

namespace Cert.Att

open Idealize.ShloMosaic

/-- A sum of real numbers is a real number. -/
theorem sum_coe {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- A nonnegative real factor goes into a sum, whatever the terms. -/
theorem sum_mul_real {ι : Type} (s : Finset ι) (f : ι → EReal) (r : ℝ) (hr : 0 ≤ r) :
    (∑ k ∈ s, f k) * (r : EReal) = ∑ k ∈ s, f k * (r : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hr) (EReal.coe_ne_top r) _ _

/-- The maximum of finitely many real numbers, from the bottom, is a real number, when there is one at all. -/
theorem fold_max_coe {n : ℕ} (f : Fin (n + 1) → ℝ) :
    ∃ M : ℝ, Finset.univ.fold max ⊥ (fun k => ((f k : ℝ) : EReal)) = (M : EReal) := by
  have hsup : Finset.univ.fold max ⊥ (fun k => ((f k : ℝ) : EReal)) = Finset.univ.sup (fun k => ((f k : ℝ) : EReal)) := rfl
  obtain ⟨k, -, hk⟩ := Finset.exists_mem_eq_sup (Finset.univ : Finset (Fin (n + 1))) Finset.univ_nonempty (fun k => ((f k : ℝ) : EReal))
  exact ⟨f k, hsup.trans hk⟩

theorem div_real (x : EReal) (r : ℝ) (hr : 0 < r) : Ideal.div x (r : EReal) = x * ((r⁻¹ : ℝ) : EReal) := by
  unfold Ideal.div
  rw [if_neg (by exact_mod_cast hr.ne'), EReal.coe_inv]

theorem softmax_eq {n : ℕ} (s : Fin (n + 1) → ℝ) (v : Fin (n + 1) → EReal) (M : ℝ) :
    ∑ t, v t * Ideal.div (Ideal.exp ((s t : EReal) - (M : EReal))) (∑ u, Ideal.exp ((s u : EReal) - (M : EReal)))
      = Ideal.div (∑ t, v t * Ideal.exp (s t : EReal)) (∑ u, Ideal.exp (s u : EReal)) := by
  have he : ∀ r : ℝ, Ideal.exp (r : EReal) = ((Real.exp r : ℝ) : EReal) := fun _ => rfl
  have hs : ∀ t, ((s t : EReal) - (M : EReal)) = ((s t - M : ℝ) : EReal) := fun t => (EReal.coe_sub _ _).symm
  simp only [hs, he, sum_coe]
  have hp : 0 < ∑ u, Real.exp (s u) := Finset.sum_pos (fun _ _ => Real.exp_pos _) Finset.univ_nonempty
  have hpM : 0 < ∑ u, Real.exp (s u - M) := Finset.sum_pos (fun _ _ => Real.exp_pos _) Finset.univ_nonempty
  rw [div_real _ _ hp, sum_mul_real _ _ _ (inv_nonneg.mpr hp.le)]
  refine Finset.sum_congr rfl fun t _ => ?_
  rw [div_real _ _ hpM, mul_assoc, ← EReal.coe_mul, ← EReal.coe_mul]
  congr 2
  simp only [Real.exp_sub, ← Finset.sum_div]
  have hM := (Real.exp_pos M).ne'
  field_simp

end Cert.Att

end
-- ==== Proof.Equation.lean ====
/-
  Device `c`'s result is its block of the reference's, when queries and keys are finite.
-/
module

public import proofs.«01_k».proof.Proof.Split
public import proofs.«01_k».proof.Proof.Whole
public import proofs.«01_k».proof.Proof.Softmax

@[expose] public section

set_option maxRecDepth 16384

noncomputable section

namespace Cert.Att

open Idealize.ShloMosaic
open Cert.KernelIdeal (nD τ sig)

/-- A whole array of the reference. -/
abbrev Whole : Type := FVec Ideal Cert.ReferenceIdeal.S4x512x16x64 .f32

/-- The scale is an eighth. -/
theorem scale_eq : Ideal.ofBits .f32 0x3E000000#32 = (((1 : ℝ) / 8 : ℝ) : EReal) := by
  simp [Ideal.ofBits, Ideal.ieee, -EReal.coe_mul]; norm_num

/-- The maximum starts from the bottom. -/
theorem bottom_eq : Ideal.ofBits .f32 0xFF800000#32 = ⊥ := by
  simp [Ideal.ofBits, Ideal.ieee]

/-- Every element is a real number. -/
def Finite (A : Whole) : Prop := ∀ j, ∃ r : ℝ, A j = (r : EReal)

theorem score_real (Q K : Whole) (hQ : Finite Q) (hK : Finite K) (b : Fin 4) (h : Fin 16) (i t : Fin 512) :
    ∃ r : ℝ, score Q K b h i t = (r : EReal) := by
  choose q hq using hQ
  choose k hk using hK
  refine ⟨(∑ e : Fin 64, q (ix4 b i h e) * k (ix4 b t h e)) * (1 / 8), ?_⟩
  unfold score
  rw [scale_eq, EReal.coe_mul, ← sum_coe]
  exact congrArg (· * _) (Finset.sum_congr rfl fun e _ => by rw [hq, hk, EReal.coe_mul])

/-- A device's weights are the exponentials of the scores. -/
theorem weight_cut (Q K : Whole) (c p : Dev nD) (b : Fin 4) (h : Fin 16) (i t : Fin 256) :
    weight (cut c Q) (cut p K) b h i t = Ideal.exp (score Q K b h (row c i) (row p t)) := by
  unfold weight score
  rw [scale_eq, sum_mul_real _ _ _ (by norm_num)]
  refine congrArg Ideal.exp (Finset.sum_congr rfl fun e _ => ?_)
  rw [cut_at, cut_at, ← mul_assoc, mul_comm (K _)]

/-- The reference's result without the maximum. -/
theorem attend_plain (Q K V : Whole) (hQ : Finite Q) (hK : Finite K) (b : Fin 4) (i : Fin 512) (h : Fin 16) (d : Fin 64) :
    attend Q K V (ix4 b i h d)
      = Ideal.div (∑ t : Fin 512, V (ix4 b t h d) * Ideal.exp (score Q K b h i t)) (∑ t : Fin 512, Ideal.exp (score Q K b h i t)) := by
  choose s hs using fun t => score_real Q K hQ hK b h i t
  obtain ⟨M, hM⟩ := fold_max_coe (n := 511) s
  have hM' : (M : EReal) = Finset.univ.fold max (Ideal.ofBits .f32 0xFF800000#32) (score Q K b h i) := by
    rw [bottom_eq, ← hM]
    exact congrArg (Finset.univ.fold max ⊥) (funext fun t => (hs t).symm)
  rw [attend_at Q K V b i h d M hM']
  simp only [hs]
  exact softmax_eq (n := 511) s (fun t => V (ix4 b t h d)) M

/-- Device `c`'s result. -/
theorem resD_eq (m : (ℓ : Loc nD τ sig) → Buf (Elt Ideal) ℓ) (Q K V : Whole) (hQ : Finite Q) (hK : Finite K)
    (eQ : ∀ c, inQ m c = cut c Q) (eK : ∀ c, inK m c = cut c K) (eV : ∀ c, inV m c = cut c V) (c : Dev nD) :
    resD m c = cut c (attend Q K V) := by
  funext j
  idx_vars j
  rw [resD_at, cut_at, attend_plain Q K V hQ hK, sum_rows c, sum_rows c]
  simp only [eQ, eK, eV, cut_at]
  have hw : ∀ p t, weight (cut c Q) (cut p K) j0 j2 j1 t = Ideal.exp (score Q K j0 j2 (row c j1) (row p t)) :=
    fun p t => weight_cut Q K c p j0 j2 j1 t
  exact congrArg₂ Ideal.div
    (congrArg₂ (· + ·) (Finset.sum_congr rfl fun t _ => congrArg (V (ix4 j0 (row c t) j2 j3) * ·) (hw c t))
      (Finset.sum_congr rfl fun t _ => congrArg (V (ix4 j0 (row (pn c) t) j2 j3) * ·) (hw (pn c) t)))
    (congrArg₂ (· + ·) (Finset.sum_congr rfl fun t _ => hw c t) (Finset.sum_congr rfl fun t _ => hw (pn c) t))

end Cert.Att

end
-- ==== Proof.Value.lean ====
/-
  The value claim: both programs run, and each device's result is its block of the reference's.
-/
module

public import proofs.«01_k».proof.Defs
public import proofs.«01_k».proof.Proof.Frames
public import proofs.«01_k».proof.Proof.Equation

@[expose] public section

set_option maxRecDepth 16384

noncomputable section

namespace Cert.Att

open Idealize.ShloMosaic Idealize.SL.Sem

/-- The precondition's side condition. -/
instance preFacts : Cert.Pre_finite_scores_KernelIdeal.Facts := ⟨by decide⟩
instance preFactsWhole : Cert.Pre_finite_scores_ReferenceIdeal.Facts := ⟨by decide⟩

theorem inf_eq : Ideal.ofBits .f32 0x7F800000#32 = ⊤ := by
  simp [Ideal.ofBits, Ideal.ieee]

/-- An element below infinity in absolute value is a real number. -/
theorem real_of_abs_lt {x : EReal} (h : max x (-x) < ⊤) : ∃ r : ℝ, x = (r : EReal) := by
  induction x using EReal.rec with
  | bot => simp at h
  | top => simp at h
  | coe r => exact ⟨r, rfl⟩

theorem and_bits {a b : Bool} (h : BitVec.ofBool a &&& BitVec.ofBool b = 1#1) : a = true ∧ b = true := by
  revert a b; decide

/-- What the precondition says of one device's arrays. -/
theorem pre_real (q k v : FVec Ideal Cert.KernelIdeal.S4x256x16x64 .f32)
    (h : Cert.Pre_finite_scores_KernelIdeal.fn (F := Ideal) q k v = fun _ => 1#1) :
    (∀ j, ∃ r : ℝ, q j = (r : EReal)) ∧ ∀ j, ∃ r : ℝ, k j = (r : EReal) := by
  have hj : ∀ j, max (q j) (-(q j)) < Ideal.ofBits .f32 0x7F800000#32 ∧ max (k j) (-(k j)) < Ideal.ofBits .f32 0x7F800000#32 := fun j => by
    have e := congrFun h j
    obtain ⟨e₁, e₂⟩ := and_bits e
    exact ⟨of_decide_eq_true e₁, of_decide_eq_true e₂⟩
  rw [inf_eq] at hj
  exact ⟨fun j => real_of_abs_lt (hj j).1, fun j => real_of_abs_lt (hj j).2⟩

/-- A whole array is finite when every device's block is. -/
theorem finite_of_cut (A : Whole) (h : ∀ c j, ∃ r : ℝ, cut c A j = (r : EReal)) : Finite A := fun j => by
  idx_vars j
  obtain ⟨c, i, hi⟩ := row_surj j1
  rw [← hi]
  obtain ⟨r, hr⟩ := h c (ix4 j0 i j2 j3)
  exact ⟨r, (cut_at c A j0 i j2 j3).symm.trans hr⟩

theorem value : Cert.algebraic_KernelIdeal_ReferenceIdeal_pre_finite_scores_KernelIdeal (hKernelIdeal := Cert.KernelIdeal.Gen.facts)
    (hReferenceIdeal := Cert.ReferenceIdeal.Gen.facts) (hPre_finite_scores_KernelIdeal := preFacts) := by
  intro m g m' g' hpre hagree
  have hreal := fun c => pre_real _ _ _ (hpre c)
  refine ⟨attend (F := Ideal) (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2)), ?_, ?_⟩
  · refine (θ_run (Cert.KernelIdeal.defs (F := Ideal)) _ _).mono (fun r h c => ?_) (run_main (F := Ideal) m g)
    refine ⟨(h.1 c).2.trans ?_, (h.1 c).1⟩
    exact resD_eq m _ _ _
      (finite_of_cut _ fun c j => by have := (hreal c).1 j; rwa [(hagree c).1] at this)
      (finite_of_cut _ fun c j => by have := (hreal c).2 j; rwa [(hagree c).2.1] at this)
      (fun c => (hagree c).1) (fun c => (hagree c).2.1) (fun c => (hagree c).2.2) c
  · exact (θ_run (Cert.ReferenceIdeal.defs (F := Ideal)) _ _).mono (fun r h => h 0) (Cert.ReferenceIdeal.Value.run (F := Ideal) m' g')

end Cert.Att

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Att.preFacts, Cert.Att.preFactsWhole,
    Cert.Att.frame_kernel, Cert.Att.frame_ideal, fun m g _ => Cert.Att.frame_ideal m g trivial,
    Cert.Att.frame_reference, fun m g _ => Cert.Att.frame_reference m g trivial, trivial, Cert.Att.value⟩

end Cert.Proof

end
